-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_nonzero [hPre_rows_nonzero : Cert.Pre_rows_nonzero.Facts] (m : (ℓ : Loc Cert.KernelIdeal.nD Cert.KernelIdeal.τ Cert.KernelIdeal.sig) → Buf (Elt Ideal) ℓ) : Prop :=
  ∀ c : Dev Cert.KernelIdeal.nD,
    (Cert.Pre_rows_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_nonzero [hPre_rows_nonzero : Cert.Pre_rows_nonzero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rows_nonzero [hKernelIdeal : Cert.KernelIdeal.Facts] [hPre_rows_nonzero : Cert.Pre_rows_nonzero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_nonzero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rows_nonzero [hReferenceIdeal : Cert.ReferenceIdeal.Facts] [hPre_rows_nonzero : Cert.Pre_rows_nonzero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_nonzero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  IdealRules.named_const.Statement Cert.KernelIdeal.κ "scale" .f32 0x41A4E123#32 ((((Real.log 2) * (7 / 100))⁻¹ : ℝ) : EReal)

def preserves_Reference_ReferenceIdeal : Prop :=
  True

def algebraic_KernelIdeal_ReferenceIdeal_pre_rows_nonzero [hKernelIdeal : Cert.KernelIdeal.Facts] [hReferenceIdeal : Cert.ReferenceIdeal.Facts] [hPre_rows_nonzero : Cert.Pre_rows_nonzero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_nonzero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hReference : Cert.Reference.Facts) (hPre_rows_nonzero : Cert.Pre_rows_nonzero.Facts),
    quiescent_Kernel (hKernel := hKernel)
    ∧ quiescent_KernelIdeal (hKernelIdeal := hKernelIdeal)
    ∧ quiescent_KernelIdeal_pre_rows_nonzero (hKernelIdeal := hKernelIdeal) (hPre_rows_nonzero := hPre_rows_nonzero)
    ∧ quiescent_ReferenceIdeal (hReferenceIdeal := hReferenceIdeal)
    ∧ quiescent_ReferenceIdeal_pre_rows_nonzero (hReferenceIdeal := hReferenceIdeal) (hPre_rows_nonzero := hPre_rows_nonzero)
    ∧ quiescent_Reference (hReference := hReference)
    ∧ preserves_Kernel_KernelIdeal
    ∧ preserves_Reference_ReferenceIdeal
    ∧ algebraic_KernelIdeal_ReferenceIdeal_pre_rows_nonzero (hKernelIdeal := hKernelIdeal) (hReferenceIdeal := hReferenceIdeal) (hPre_rows_nonzero := hPre_rows_nonzero)
-- ==== Pre_rows_nonzero.lean ====
abbrev S8192x512 : Shape := ⟨2, ![8192, 512]⟩
abbrev S8192 : Shape := ⟨1, ![8192]⟩
abbrev S_ : Shape := ⟨0, ![]⟩

class Facts : Prop where
  bcast_S_S8192x512 : S_.BroadcastsInDim S8192x512 (![] : Fin 0 → Fin S8192x512.rank)
  reducesTo_S8192x512_S8192_d1 : S8192x512.ReducesTo [1] S8192
  h_S_ : 0 < S_.numel
  reducesTo_S8192_S_d0 : S8192.ReducesTo [0] S_

variable [Facts]

def fn {F : FTy → Type} [FloatOps F] (main_arg0 : FVec F S8192x512 .f32) (main_arg1 : IVec S8192 32) : IVec S_ 1 :=
  let main_cst : FVec F S_ .f32 := constant S_ .f32 0x00000000#32
  let main_v0 : FVec F S8192x512 .f32 := broadcastInDim S8192x512 ![] bcast_S_S8192x512 main_cst
  let main_v1 : IVec S8192x512 1 := cmpf .une main_arg0 main_v0
  let main_c : IVec S_ 1 := constantI S_ 1 0#1
  let main_v2 : IVec S8192 1 := (fun x v => Host.reduce IntOp.ori x v reducesTo_S8192x512_S8192_d1 h_S_) main_v1 main_c
  let main_c_0 : IVec S_ 1 := constantI S_ 1 1#1
  let main_v3 : IVec S_ 1 := (fun x v => Host.reduce IntOp.andi x v reducesTo_S8192_S_d0 h_S_) main_v2 main_c_0
  main_v3
-- ==== Kernel.lean ====
abbrev S8192x512 : Shape := ⟨2, ![8192, 512]⟩
abbrev S8192 : Shape := ⟨1, ![8192]⟩
abbrev S16x512x512 : Shape := ⟨3, ![16, 512, 512]⟩
abbrev S512x512 : Shape := ⟨2, ![512, 512]⟩
abbrev S1x512x512 : Shape := ⟨3, ![1, 512, 512]⟩
abbrev S512 : Shape := ⟨1, ![512]⟩
abbrev S512x1 : Shape := ⟨2, ![512, 1]⟩
abbrev S8192x1 : Shape := ⟨2, ![8192, 1]⟩
abbrev S8192x128 : Shape := ⟨2, ![8192, 128]⟩
abbrev S16x1x512 : Shape := ⟨3, ![16, 1, 512]⟩
abbrev S1x1 : Shape := ⟨2, ![1, 1]⟩
abbrev S512x128 : Shape := ⟨2, ![512, 128]⟩
abbrev S_ : Shape := ⟨0, ![]⟩
abbrev S1x1x512 : Shape := ⟨3, ![1, 1, 512]⟩
abbrev S1x512 : Shape := ⟨2, ![1, 512]⟩
abbrev S1x128 : Shape := ⟨2, ![1, 128]⟩
abbrev S1 : Shape := ⟨1, ![1]⟩

abbrev nBuf : Space → Nat
  | .hbm => 21
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S16x512x512, .bf16⟩
  | .hbm, ⟨3, _⟩ => ⟨S8192x512, .bf16⟩
  | .hbm, ⟨4, _⟩ => ⟨S8192, .f32⟩
  | .hbm, ⟨5, _⟩ => ⟨S8192x1, .f32⟩
  | .hbm, ⟨6, _⟩ => ⟨S8192x128, .f32⟩
  | .hbm, ⟨7, _⟩ => ⟨S16x1x512, .f32⟩
  | .hbm, ⟨8, _⟩ => ⟨S1x1, .f32⟩
  | .hbm, ⟨9, _⟩ => ⟨S1x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .i1⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S512x512, .f32⟩
  | .local _ .vmem, ⟨1, _⟩ => ⟨S512x512, .f32⟩
  | .local _ .vmem, ⟨2, _⟩ => ⟨S1x512x512, .bf16⟩
  | .local _ .vmem, ⟨3, _⟩ => ⟨S1x512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x128, .f32⟩
  | .local _ .vmem, ⟨9, _⟩ => ⟨S512x128, .f32⟩
  | .local _ .vmem, ⟨10, _⟩ => ⟨S16x1x512, .f32⟩
  | .local _ .vmem, ⟨11, _⟩ => ⟨S1x1, .f32⟩
  | .local _ .vmem, ⟨12, _⟩ => ⟨S1x1, .f32⟩
  | .local _ .vmem, ⟨13, _⟩ => ⟨S16x512x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_cst_1 : Ref sig .tc := ⟨.hbm, 17, rfl⟩
abbrev main_call0_v0 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def k1_off1 (i : grid1.Coords) : Fin 3 → Nat :=
  let arg0 : BitVec 32 := BitVec.ofNat 32 (i 0).val
  let v9 : Index := Scalar.indexCast arg0
  let c0_5 : Index := 0#32
  let c0_6 : Index := 0#32
  ![v9.toNat, 0, 0]
def k1_off2 (i : grid1.Coords) : Fin 3 → Nat :=
  let arg0 : BitVec 32 := BitVec.ofNat 32 (i 0).val
  let v13 : Index := Scalar.indexCast arg0
  let c0_8 : Index := 0#32
  let c0_9 : Index := 0#32
  ![v13.toNat, 0, 0]
def k1_off3 (i : grid1.Coords) (c1_i32 : BitVec 32) : Fin 3 → Nat :=
  let arg0 : BitVec 32 := BitVec.ofNat 32 (i 0).val
  let v104 : BitVec 32 := Scalar.addi arg0 c1_i32
  let c16_i32 : BitVec 32 := 16#32
  let v105 : BitVec 32 := Scalar.remsi v104 c16_i32
  let v106 : Index := Scalar.indexCast v105
  let c0_31 : Index := 0#32
  let c0_32 : Index := 0#32
  ![v106.toNat, 0, 0]
def k1_off4 (i : grid1.Coords) (c1_i32 : BitVec 32) : Fin 3 → Nat :=
  let arg0 : BitVec 32 := BitVec.ofNat 32 (i 0).val
  let v104 : BitVec 32 := Scalar.addi arg0 c1_i32
  let c16_i32 : BitVec 32 := 16#32
  let v105 : BitVec 32 := Scalar.remsi v104 c16_i32
  let v110 : Index := Scalar.indexCast v105
  let c0_34 : Index := 0#32
  let c0_35 : Index := 0#32
  ![v110.toNat, 0, 0]
def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]
-- ==== KernelIdeal.lean ====
variable {F : FTy → Type} [FloatOps F] [Named F]
def κ : String → Option EReal := fun
  | "scale" => some ((((Real.log 2) * (7 / 100))⁻¹ : ℝ) : EReal)
  | _ => none
-- ==== Reference.lean ====
abbrev S8192x512 : Shape := ⟨2, ![8192, 512]⟩
abbrev S8192 : Shape := ⟨1, ![8192]⟩
abbrev S_ : Shape := ⟨0, ![]⟩
abbrev S8192x1 : Shape := ⟨2, ![8192, 1]⟩
abbrev S512x8192 : Shape := ⟨2, ![512, 8192]⟩
abbrev S8192x8192 : Shape := ⟨2, ![8192, 8192]⟩
abbrev S1x8192 : Shape := ⟨2, ![1, 8192]⟩

abbrev nBuf : Space → Nat
  | .hbm => 94
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S8192x512, .f32⟩
  | .hbm, ⟨8, _⟩ => ⟨S8192x512, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S512x8192, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S8192x1, .i32⟩
  | .hbm, ⟨17, _⟩ => ⟨S1x8192, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S8192x8192, .i32⟩
  | .hbm, ⟨22, _⟩ => ⟨S8192x8192, .i32⟩
  | .hbm, ⟨23, _⟩ => ⟨S_, .i32⟩
  | .hbm, ⟨24, _⟩ => ⟨S8192x8192, .i32⟩
  | .hbm, ⟨25, _⟩ => ⟨S8192x8192, .i32⟩
  | .hbm, ⟨26, _⟩ => ⟨S8192x8192, .i1⟩
  | .hbm, ⟨27, _⟩ => ⟨S8192x8192, .i1⟩
  | .hbm, ⟨28, _⟩ => ⟨S8192x8192, .i1⟩
  | .hbm, ⟨29, _⟩ => ⟨S_, .f32⟩
  | .hbm, ⟨30, _⟩ => ⟨S8192x8192, .f32⟩
  | .hbm, ⟨31, _⟩ => ⟨S8192x8192, .i1⟩
  | .hbm, ⟨32, _⟩ => ⟨S8192x8192, .i1⟩
  | .hbm, ⟨33, _⟩ => ⟨S8192x8192, .f32⟩
  | .hbm, ⟨34, _⟩ => ⟨S_, .f32⟩
  | .hbm, ⟨35, _⟩ => ⟨S_, .f32⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192x8192, .i32⟩
  | .hbm, ⟨43, _⟩ => ⟨S8192x8192, .i32⟩
  | .hbm, ⟨44, _⟩ => ⟨S_, .i32⟩
  | .hbm, ⟨45, _⟩ => ⟨S8192x8192, .i32⟩
  | .hbm, ⟨46, _⟩ => ⟨S8192x8192, .i32⟩
  | .hbm, ⟨47, _⟩ => ⟨S8192x8192, .i1⟩
  | .hbm, ⟨48, _⟩ => ⟨S_, .f32⟩
  | .hbm, ⟨49, _⟩ => ⟨S_, .f32⟩
  | .hbm, ⟨50, _⟩ => ⟨S8192x8192, .f32⟩
  | .hbm, ⟨51, _⟩ => ⟨S8192x8192, .f32⟩
  | .hbm, ⟨52, _⟩ => ⟨S_, .f32⟩
  | .hbm, ⟨53, _⟩ => ⟨S8192, .f32⟩
  | .hbm, ⟨54, _⟩ => ⟨S8192, .f32⟩
  | .hbm, ⟨55, _⟩ => ⟨S_, .i1⟩
  | .hbm, ⟨56, _⟩ => ⟨S8192, .i1⟩
  | .hbm, ⟨57, _⟩ => ⟨S_, .f32⟩
  | .hbm, ⟨58, _⟩ => ⟨S8192, .f32⟩
  | .hbm, ⟨59, _⟩ => ⟨S8192, .i1⟩
  | .hbm, ⟨60, _⟩ => ⟨S8192, .i1⟩
  | .hbm, ⟨61, _⟩ => ⟨S_, .f32⟩
  | .hbm, ⟨62, _⟩ => ⟨S_, .f32⟩
  | .hbm, ⟨63, _⟩ => ⟨S8192, .f32⟩
  | .hbm, ⟨64, _⟩ => ⟨S8192, .f32⟩
  | .hbm, ⟨65, _⟩ => ⟨S_, .f32⟩
  | .hbm, ⟨66, _⟩ => ⟨S_, .f32⟩
  | .hbm, ⟨67, _⟩ => ⟨S8192, .f32⟩
  | .hbm, ⟨68, _⟩ => ⟨S8192, .f32⟩
  | .hbm, ⟨69, _⟩ => ⟨S_, .f32⟩
  | .hbm, ⟨70, _⟩ => ⟨S8192, .f32⟩
  | .hbm, ⟨71, _⟩ => ⟨S8192, .f32⟩
  | .hbm, ⟨72, _⟩ => ⟨S8192, .f32⟩
  | .hbm, ⟨73, _⟩ => ⟨S8192, .f32⟩
  | .hbm, ⟨74, _⟩ => ⟨S8192, .f32⟩
  | .hbm, ⟨75, _⟩ => ⟨S8192, .i32⟩
  | .hbm, ⟨76, _⟩ => ⟨S_, .i32⟩
  | .hbm, ⟨77, _⟩ => ⟨S_, .i32⟩
  | .hbm, ⟨78, _⟩ => ⟨S_, .f32⟩
  | .hbm, ⟨79, _⟩ => ⟨S_, .f32⟩
  | .hbm, ⟨80, _⟩ => ⟨S8192, .f32⟩
  | .hbm, ⟨81, _⟩ => ⟨S8192, .f32⟩
  | .hbm, ⟨82, _⟩ => ⟨S_, .f32⟩
  | .hbm, ⟨83, _⟩ => ⟨S_, .f32⟩
  | .hbm, ⟨84, _⟩ => ⟨S_, .i32⟩
  | .hbm, ⟨85, _⟩ => ⟨S_, .i32⟩
  | .hbm, ⟨86, _⟩ => ⟨S_, .f32⟩
  | .hbm, ⟨87, _⟩ => ⟨S_, .f32⟩
  | .hbm, ⟨88, _⟩ => ⟨S_, .i32⟩
  | .hbm, ⟨89, _⟩ => ⟨S_, .i1⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_call1_v0 : Ref sig .tc := ⟨.hbm, 35, rfl⟩
abbrev main_call1_v1 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_call2_v0 : Ref sig .tc := ⟨.hbm, 49, rfl⟩
abbrev main_call2_v1 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_cst_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_10 : Ref sig .tc := ⟨.hbm, 61, rfl⟩
abbrev main_call3_v0 : Ref sig .tc := ⟨.hbm, 62, rfl⟩
abbrev main_call3_v1 : Ref sig .tc := ⟨.hbm, 63, rfl⟩
abbrev main_v39 : Ref sig .tc := ⟨.hbm, 64, rfl⟩
abbrev main_cst_11 : Ref sig .tc := ⟨.hbm, 65, rfl⟩
abbrev main_call4_v0 : Ref sig .tc := ⟨.hbm, 66, rfl⟩
abbrev main_call4_v1 : Ref sig .tc := ⟨.hbm, 67, rfl⟩
abbrev main_v40 : Ref sig .tc := ⟨.hbm, 68, rfl⟩
abbrev main_cst_12 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_c_13 : Ref sig .tc := ⟨.hbm, 76, rfl⟩
abbrev main_v47 : Ref sig .tc := ⟨.hbm, 77, rfl⟩
abbrev main_cst_14 : Ref sig .tc := ⟨.hbm, 78, rfl⟩
abbrev main_call5_v0 : Ref sig .tc := ⟨.hbm, 79, rfl⟩
abbrev main_call5_v1 : Ref sig .tc := ⟨.hbm, 80, rfl⟩
abbrev main_v48 : Ref sig .tc := ⟨.hbm, 81, rfl⟩
abbrev main_cst_15 : Ref sig .tc := ⟨.hbm, 82, rfl⟩
abbrev main_v49 : Ref sig .tc := ⟨.hbm, 83, rfl⟩
abbrev main_c_16 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_c_17 : Ref sig .tc := ⟨.hbm, 88, rfl⟩
abbrev main_v53 : Ref sig .tc := ⟨.hbm, 89, rfl⟩
abbrev main_cst_18 : Ref sig .tc := ⟨.hbm, 90, rfl⟩
abbrev main_call6_v0 : Ref sig .tc := ⟨.hbm, 91, rfl⟩
abbrev main_v54 : Ref sig .tc := ⟨.hbm, 92, rfl⟩
abbrev main_v55 : Ref sig .tc := ⟨.hbm, 93, rfl⟩

abbrev nD : Nat := 1
abbrev τ : Topo := Topo.v7x

variable {F : FTy → Type} [FloatOps F]
-- ==== Proof.LossVal.lean ====
/-
  What one point of the second kernel call computes from what it reads: the block of scaled rows, their labels, the
  labels of every row, and the sixteen transposed blocks. The kernel writes this out one slice of 128 columns at a time;
  here it is a fold over the blocks, each step over its four slices.
-/
module

public import proofs.«01_k».proof.Proof.Gen.KernelIdeal.Skeleton
public import Idealize.ShloMosaic.Lib.Pipeline.FrameBody

@[expose] public section

set_option maxRecDepth 16384

noncomputable section

namespace Cert.Loss

open Cert.KernelIdeal Cert.KernelIdeal.Gen
open Idealize.ShloMosaic Idealize.ShloMosaic.TcCoe

variable {F : FTy → Type} [FloatOps F] [Named F]

/-- Zero in every lane. -/
def zeros : FVec F S512x128 .f32 := broadcast S512x128 (Scalar.ofBits .f32 0x00000000#32)

/-- Slice `j` of a block of similarities, and of a block of column labels. -/
def simSlice (s : FVec F S512x512 .f32) : Fin 4 → FVec F S512x128 .f32
  | 0 => extractStridedSlice S512x128 ![0, 0] s slices_S512x512_o0_0_S512x128
  | 1 => extractStridedSlice S512x128 ![0, 128] s slices_S512x512_o0_128_S512x128
  | 2 => extractStridedSlice S512x128 ![0, 256] s slices_S512x512_o0_256_S512x128
  | 3 => extractStridedSlice S512x128 ![0, 384] s slices_S512x512_o0_384_S512x128
def labSlice (l : FVec F S1x512 .f32) : Fin 4 → FVec F S1x128 .f32
  | 0 => extractStridedSlice S1x128 ![0, 0] l slices_S1x512_o0_0_S1x128
  | 1 => extractStridedSlice S1x128 ![0, 128] l slices_S1x512_o0_128_S1x128
  | 2 => extractStridedSlice S1x128 ![0, 256] l slices_S1x512_o0_256_S1x128
  | 3 => extractStridedSlice S1x128 ![0, 384] l slices_S1x512_o0_384_S1x128

/-- Off the diagonal of slice `j` of a block met with itself. -/
def offDiag (j : Fin 4) : IVec S512x128 1 :=
  cmpi .ne (iota .tc S512x128 32 [0] iota_S512x128_d0_w32)
    (addi (iota .tc S512x128 32 [1] iota_S512x128_d1_w32) (broadcast S512x128 (BitVec.ofNat 32 (128 * j.val))))

/-- What slice `j` adds to the denominators and to the numerators. -/
def denTerm (s : FVec F S512x512 .f32) (j : Fin 4) : FVec F S512x128 .f32 := exp2 (simSlice s j)
def numTerm (lr : FVec F S512x128 .f32) (s : FVec F S512x512 .f32) (l : FVec F S1x512 .f32) (j : Fin 4) : FVec F S512x128 .f32 :=
  select (cmpf .oeq lr (broadcastTo S512x128 (labSlice l j) broadcasts_S1x128_S512x128))
    (select (cmpf .ogt (simSlice s j) zeros) (denTerm s j) zeros) zeros

/-- Four slices added in turn onto `a`. -/
def addSlices (a : FVec F S512x128 .f32) (f : Fin 4 → FVec F S512x128 .f32) : FVec F S512x128 .f32 :=
  addf (addf (addf (addf a (f 0)) (f 1)) (f 2)) (f 3)

/-- A block's similarities, its labels as one row. -/
def simOf (x : Vec F S512x512 .bf16) (b : Vec F S1x512x512 .bf16) : FVec F S512x512 .f32 :=
  matmul dot_S512x512_S512x512_S512x512_1_0_0_1_n_n none (shapeCast S512x512 x shapeCasts_S512x512_S512x512 : FVec F S512x512 .bf16)
    (shapeCast S512x512 b shapeCasts_S1x512x512_S512x512 : FVec F S512x512 .bf16) (constant S512x512 .f32 0x00000000#32)
def labOf (l : Vec F S1x1x512 .f32) : FVec F S1x512 .f32 := shapeCast S1x512 l shapeCasts_S1x1x512_S1x512

/-- The block met first at point `i` (its own), and the one met `r + 1` steps later. -/
def ownCols (G : Vec F S16x512x512 .bf16) (i : grid1.Coords) : Vec F S1x512x512 .bf16 :=
  View.ld G (Rect.unit (s := S16x512x512) (k1_off1 i) S1x512x512.size (k1_off1_inb i))
def ownLabs (lc : Vec F S16x1x512 .f32) (i : grid1.Coords) : Vec F S1x1x512 .f32 :=
  View.ld lc (Rect.unit (s := S16x1x512) (k1_off2 i) S1x1x512.size (k1_off2_inb i))
def nextCols (G : Vec F S16x512x512 .bf16) (i : grid1.Coords) (r : Fin 15) : Vec F S1x512x512 .bf16 :=
  View.ld G (Rect.unit (s := S16x512x512) (k1_off3 i (BitVec.ofNat 32 (1 + r.val))) S1x512x512.size (k1_off3_inb i r))
def nextLabs (lc : Vec F S16x1x512 .f32) (i : grid1.Coords) (r : Fin 15) : Vec F S1x1x512 .f32 :=
  View.ld lc (Rect.unit (s := S16x1x512) (k1_off4 i (BitVec.ofNat 32 (1 + r.val))) S1x1x512.size (k1_off4_inb i r))

/-- The steps after the first, in order. -/
def steps : List (Fin 15) := [0, 1, 2, 3, 4, 5, 6, 7, 8, 9, 10, 11, 12, 13, 14]

/-- The denominators and the numerators, still spread over 128 lanes. -/
def denLanes (x : Vec F S512x512 .bf16) (G : Vec F S16x512x512 .bf16) (i : grid1.Coords) : FVec F S512x128 .f32 :=
  steps.foldl (fun a r => addSlices a (denTerm (simOf x (nextCols G i r))))
    (addSlices zeros fun j => select (offDiag j) (denTerm (simOf x (ownCols G i)) j) zeros)
def numLanes (x : Vec F S512x512 .bf16) (lr : Vec F S512x128 .f32) (lc : Vec F S16x1x512 .f32) (G : Vec F S16x512x512 .bf16)
    (i : grid1.Coords) : FVec F S512x128 .f32 :=
  steps.foldl (fun a r => addSlices a (numTerm (shapeCast S512x128 lr shapeCasts_S512x128_S512x128) (simOf x (nextCols G i r)) (labOf (nextLabs lc i r))))
    (addSlices zeros fun j => select (offDiag j) (numTerm (shapeCast S512x128 lr shapeCasts_S512x128_S512x128) (simOf x (ownCols G i)) (labOf (ownLabs lc i)) j) zeros)

/-- A row's lanes summed. -/
def rowSum (v : FVec F S512x128 .f32) : FVec F S512x1 .f32 :=
  shapeCast S512x1 (multiReduction .add [1] S512 v 0x00000000#32 reduces_S512x128_S512 (.inl rfl) rfl : FVec F S512 .f32) shapeCasts_S512_S512x1

/-- The rows that count: both sums positive. -/
def counted (num den : FVec F S512x1 .f32) : IVec S512x1 1 :=
  andi (cmpf .ogt num (broadcast S512x1 (Scalar.ofBits .f32 0x00000000#32))) (cmpf .ogt den (broadcast S512x1 (Scalar.ofBits .f32 0x00000000#32)))

/-- A row's loss, zero where the row does not count. -/
def rowLoss (num den : FVec F S512x1 .f32) : FVec F S512x1 .f32 :=
  select (counted num den)
    (subf (broadcast S512x1 (Scalar.ofBits .f32 0x00000000#32))
      (log (divf (select (counted num den) num (broadcast S512x1 (Scalar.ofBits .f32 0x3F800000#32)))
        (addf (select (counted num den) den (broadcast S512x1 (Scalar.ofBits .f32 0x3F800000#32))) (broadcast S512x1 (Scalar.ofBits .f32 0x322BCC77#32))))))
    (broadcast S512x1 (Scalar.ofBits .f32 0x00000000#32))

/-- The rows of a column summed to one number. -/
def colSum (v : FVec F S512x1 .f32) : FVec F S1x1 .f32 :=
  shapeCast S1x1 (multiReduction .add [0] S1 v 0x00000000#32 reduces_S512x1_S1 (.inl rfl) rfl : FVec F S1 .f32) shapeCasts_S1_S1x1

/-- What a point adds to the loss and to the count of rows, onto what is there. -/
def lossNext (x : Vec F S512x512 .bf16) (lr : Vec F S512x128 .f32) (lc : Vec F S16x1x512 .f32) (G : Vec F S16x512x512 .bf16)
    (i : grid1.Coords) (a : Vec F S1x1 .f32) : FVec F S1x1 .f32 :=
  addf (shapeCast S1x1 a shapeCasts_S1x1_S1x1 : FVec F S1x1 .f32) (colSum (rowLoss (rowSum (numLanes x lr lc G i)) (rowSum (denLanes x G i))))
def countNext (x : Vec F S512x512 .bf16) (lr : Vec F S512x128 .f32) (lc : Vec F S16x1x512 .f32) (G : Vec F S16x512x512 .bf16)
    (i : grid1.Coords) (a : Vec F S1x1 .f32) : FVec F S1x1 .f32 :=
  addf (shapeCast S1x1 a shapeCasts_S1x1_S1x1 : FVec F S1x1 .f32)
    (colSum (sitofp .f32 (extui 32 (counted (rowSum (numLanes x lr lc G i)) (rowSum (denLanes x G i))) natLt_1_32)))

/-- A whole block of rows, of row labels, and the one cell of a 1×1 result. -/
abbrev rowsRect : Rect S512x512 := Rect.unit (s := S512x512) ![0, 0] S512x512.size inb_S512x512_S512x512_0_0
abbrev labsRect : Rect S512x128 := Rect.unit (s := S512x128) ![0, 0] S512x128.size inb_S512x128_S512x128_0_0
abbrev oneRect : Rect S1x1 := Rect.unit (s := S1x1) ![0, 0] S1x1.size inb_S1x1_S1x1_0_0

end Cert.Loss

end
-- ==== Proof.NormBody.lean ====
/-
  The first kernel call: every point reads one block of 512 rows and stores the rows scaled to unit length twice,
  transposed, and row-wise times the softmax scale. What the two stores leave, the body's triple, the call's proof data
  and the obligation at a generic point.
-/
module

public import proofs.«01_k».proof.Proof.LossVal
public import proofs.«01_k».proof.Proof.Gen.KernelIdeal.Points
public import proofs.«01_k».proof.Proof.Gen.KernelIdeal.Regions
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Loss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (Pipeline.UD sig nD τ) ℕ

variable (m : (ℓ : Loc nD τ sig) → Buf (Elt F) ℓ)

/-- The whole transposed block. -/
abbrev colsRect : Rect S1x512x512 := Rect.unit (s := S1x512x512) ![0, 0, 0] S1x512x512.size inb_S1x512x512_S1x512x512_0_0_0

/-- What the call leaves in the transposed block and in the scaled block, from the rows it reads. -/
def unitCols (x : Vec F S512x512 .f32) : Vec F S1x512x512 .bf16 := View.canon [⟨colsRect, k0_pay2 (View.ld x rowsRect)⟩]
def unitRows (x : Vec F S512x512 .f32) : Vec F S512x512 .bf16 := View.canon [⟨rowsRect, k0_pay3 (View.ld x rowsRect)⟩]

theorem cols_covered (p : Vec F S1x512x512 .bf16) (y : S1x512x512.Idx) :
    ∃ pc ∈ ([⟨colsRect, p⟩] : List (View.Piece (Elt F) S1x512x512 .bf16)), y ∈ pc.1.set :=
  View.cover_of_tiled [⟨colsRect, p⟩] S1x512x512.size (by rfl) y
theorem rows_covered (p : Vec F S512x512 .bf16) (y : S512x512.Idx) :
    ∃ pc ∈ ([⟨rowsRect, p⟩] : List (View.Piece (Elt F) S512x512 .bf16)), y ∈ pc.1.set :=
  View.cover_of_tiled [⟨rowsRect, p⟩] S512x512.size (by rfl) y

set_option maxHeartbeats 1000000 in
/-- The body: the rows come back as they were, the two results hold `unitCols` and `unitRows` of them. -/
theorem norm_triple (c : Dev nD) (i : grid0.Coords) (a1 : Memref sig .tc .vmem S512x512 .f32) (h1 : a1.IsWhole)
    (a2 : Memref sig .tc .vmem S1x512x512 .bf16) (h2 : a2.IsWhole) (a3 : Memref sig .tc .vmem S512x512 .bf16) (h3 : a3.IsWhole)
    (x : Vec F S512x512 .f32) (K : PUnit → sProp 𝕄) :
    iprop(owns (c : Thread nD τ) a1 fullShare x ∗ (∃ d, owns (c : Thread nD τ) a2 fullShare d) ∗ (∃ d, owns (c : Thread nD τ) a3 fullShare d)
        ∗ (iprop(owns (c : Thread nD τ) a1 fullShare x ∗ owns (c : Thread nD τ) a2 fullShare (unitCols x) ∗ owns (c : Thread nD τ) a3 fullShare (unitRows x)) -∗ K ⟨⟩))
      ⊢ wp frame (wpE (defs₀ (F := F)) Variants.none c none) Set.univ (cc0__normalize_kernel i a1 h1 a2 h2 a3 h3) K := by
  simp only [cc0__normalize_kernel_eq_skeleton]; unfold cc0__normalize_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cols_covered _)
  iexists _; isplitr
  swap; · iexact H2
  ipureintro
  exact View.read_writes_eq_canon _ _ _ (rows_covered _)

/-- The rows read at point `t`. -/
def normIn (c : Dev nD) (t : Fin cfg0.N) : Vec F S512x512 .f32 :=
  ((cfg0.win 0).blk t).view.read (Elt F) (V0 m c (Pipeline.arrRef spec0 0))

/-- The call's proof data: its arrays as launched, nothing carried from point to point. -/
def normDat (c : Dev nD) : Dat τ (Elt F) Unit ℕ (Pipeline.UD sig nD τ) ℕ cfg0 c where
  A w := V0 m c (Pipeline.arrRef spec0 w)
  after w t := match w with
    | ⟨0, _⟩ => normIn m c t
    | ⟨1, _⟩ => unitCols (normIn m c t)
    | ⟨2, _⟩ => unitRows (normIn m c t)
  Φ _ := Pipeline.ΦA spec0 c
  q _ := fullShare
  owed _ := 0

theorem normDat_A (c : Dev nD) (w : Fin cfg0.W) : (normDat m c).A w = V0 m c (Pipeline.arrRef spec0 w) := by dsimp only [normDat]
theorem normDat_after0 (c : Dev nD) (t : Fin cfg0.N) : (normDat m c).after 0 t = normIn m c t := by dsimp only [normDat]
theorem normDat_after1 (c : Dev nD) (t : Fin cfg0.N) : (normDat m c).after 1 t = unitCols (normIn m c t) := by dsimp only [normDat]
theorem normDat_after2 (c : Dev nD) (t : Fin cfg0.N) : (normDat m c).after 2 t = unitRows (normIn m c t) := by dsimp only [normDat]

/-- The rows' buffer holds the block when the body runs. -/
theorem normDat_before0 (c : Dev nD) (t : Fin cfg0.N) (d) : (normDat m c).before 0 t d = normIn m c t :=
  ((normDat m c).before_in_eq_fetched 0 rfl (fun _ => rfl) (fun _ _ _ => rfl)
      (fun t => by rw [normDat_after0]; unfold Dat.blockOf normIn; rw [normDat_A]; try rfl) t d).trans
    (by unfold Dat.fetched Dat.blockOf normIn; rw [normDat_A]; try rfl)

/-- The obligation: at every point the body's triple applies, the rest passing through. -/
theorem norm_obligation (c : Dev nD) : BodyObligation (normDat (F := F) m c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  refine triple_restated (P := iprop((normDat m c).Φ t.castSucc ∗ (normDat m c).owesAt () t.castSucc
      ∗ (∃ d, owns (c : Thread nD τ) (st0_0 t) fullShare ((normDat m c).before 0 t d))
      ∗ (∃ d, owns (c : Thread nD τ) (st0_1 t) fullShare ((normDat m c).before 1 t d))
      ∗ (∃ d, owns (c : Thread nD τ) (st0_2 t) fullShare ((normDat m c).before 2 t d))))
    (Q := fun _ => iprop((normDat m c).Φ t.succ ∗ (normDat m c).owesAt () t.succ
      ∗ owns (c : Thread nD τ) (st0_0 t) fullShare ((normDat m c).after 0 t)
      ∗ owns (c : Thread nD τ) (st0_1 t) fullShare ((normDat m c).after 1 t)
      ∗ owns (c : Thread nD τ) (st0_2 t) fullShare ((normDat m c).after 2 t))) ?_ rfl .rfl fun _ => .rfl
  simp only [normDat_before0]
  rw [show (normDat m c).Φ t.succ = (normDat m c).Φ t.castSucc from rfl,
    show (normDat m c).owesAt () t.succ = (normDat m c).owesAt () t.castSucc from rfl,
    normDat_after0, normDat_after1, normDat_after2]
  iintro ⟨HΦ, Ho, ⟨%d0, H0⟩, ⟨%d1, H1⟩, ⟨%d2, H2⟩⟩
  iapply (norm_triple c (grid0.coords t) _ _ _ _ _ _ (normIn m c t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.Loss

end
-- ==== Proof.LossBody.lean ====
/-
  The second kernel call, its body at a point: the first point copies the transposed blocks into scratch and clears both
  sums; every point adds its rows' losses and its count.
-/
module

public import proofs.«01_k».proof.Proof.LossVal
public import proofs.«01_k».proof.Proof.Gen.KernelIdeal.Points
public import proofs.«01_k».proof.Proof.Gen.KernelIdeal.Regions
public import Idealize.ShloMosaic.Lib.Pipeline.Value
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Loss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-- A 1×1 buffer reads, after a store to its one cell, what was stored. -/
theorem read_one (v : View sig .tc .vmem S1x1 .f32) (f : v.ty.Contents (Elt F)) (p : Vec F S1x1 .f32) (L : List (View.Piece (Elt F) S1x1 .f32)) :
    v.read (Elt F) (v.writes (Elt F) f (⟨oneRect, p⟩ :: L)) = p :=
  (View.read_writes_eq_canon _ _ _ fun y => ⟨_, List.mem_cons_self, by
    obtain ⟨_, hp, hy⟩ := View.cover_of_tiled [(⟨oneRect, p⟩ : View.Piece (Elt F) S1x1 .f32)] S1x1.size (by rfl) y
    rw [List.mem_singleton.mp hp] at hy; exact hy⟩).trans
  (View.canon_cons_unit_zero (by funext a; fin_cases a <;> rfl) _ _ _)

/-- The body's branch is taken. -/
abbrev firstPt (i : grid1.Coords) : Prop := (Scalar.cmpi .ne (Scalar.extui (Scalar.cmpi .eq (BitVec.ofNat 32 (i 0).val) 0#32)) 0#32) = 1#1

set_option maxHeartbeats 1000000 in
/-- A point after the first: the sums grow by the point's own. -/
theorem loss_later (c : Dev nD) (i : grid1.Coords) (hc : ¬ firstPt i) (a2 : Memref sig .tc .vmem S512x512 .bf16) (h2 : a2.IsWhole)
    (a3 : Memref sig .tc .vmem S512x128 .f32) (h3 : a3.IsWhole) (a4 : Memref sig .tc .vmem S16x1x512 .f32) (h4 : a4.IsWhole)
    (a5 : Memref sig .tc .vmem S1x1 .f32) (h5 : a5.IsWhole) (a6 : Memref sig .tc .vmem S1x1 .f32) (h6 : a6.IsWhole)
    (a7 : Memref sig .tc .vmem S16x512x512 .bf16) (h7 : a7.IsWhole)
    (x : Vec F S512x512 .bf16) (lr : Vec F S512x128 .f32) (lc : Vec F S16x1x512 .f32) (G : Vec F S16x512x512 .bf16) (L N : Vec F S1x1 .f32) (K : PUnit → sProp 𝕄) :
    iprop(owns (c : Thread nD τ) a2 fullShare x ∗ owns (c : Thread nD τ) a3 fullShare lr ∗ owns (c : Thread nD τ) a4 fullShare lc
        ∗ owns (c : Thread nD τ) a5 fullShare L ∗ owns (c : Thread nD τ) a6 fullShare N ∗ owns (c : Thread nD τ) a7 fullShare G
        ∗ (iprop(owns (c : Thread nD τ) a2 fullShare x ∗ owns (c : Thread nD τ) a3 fullShare lr ∗ owns (c : Thread nD τ) a4 fullShare lc
          ∗ owns (c : Thread nD τ) a5 fullShare ((lossNext (View.ld x rowsRect) (View.ld lr labsRect) lc G i (View.ld L oneRect)))
          ∗ owns (c : Thread nD τ) a6 fullShare ((countNext (View.ld x rowsRect) (View.ld lr labsRect) lc G i (View.ld N oneRect)))
          ∗ owns (c : Thread nD τ) a7 fullShare G) -∗ K ⟨⟩))
      ⊢ wp frame (wpE (defs₀ (F := F)) Variants.none c none) Set.univ (cc1__loss_kernel i (Memref.whole main_v0_0) (Memref.isWhole_whole _) a2 h2 a3 h3 a4 h4 a5 h5 a6 h6 a7 h7 cc1_scratch1) K := by
  simp only [cc1__loss_kernel_eq_skeleton]; unfold cc1__loss_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf2 hf3 hf4 hf5 hf6 hf7
  sl_exec (disch := first | sl_exact hc)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact (read_one _ _ _ _).trans rfl
  isplitl [H6]
  · iexists _; isplitr
    swap; · iexact H6
    ipureintro
    exact (read_one _ _ _ _).trans rfl
  iexists f7; isplitr; · ipureintro; rfl
  iexact H7

/-- The buffer a memref names, and it held whole at `f`. -/
abbrev ColsBuf (c : Dev nD) {sp : Space} {S : Shape} {e : EltTy} (M : Memref sig .tc sp S e) : Type := Buf (Elt F) (M.view.loc (c : Thread nD τ))
abbrev colsPt (c : Dev nD) {sp : Space} {S : Shape} {e : EltTy} (M : Memref sig .tc sp S e) (f : ColsBuf (F := F) c M) : sProp 𝕄 :=
  M.view.loc (c : Thread nD τ) ↦{fullShare} f

set_option maxHeartbeats 1000000 in
/-- The first point: scratch takes the transposed blocks, both sums start from zero. -/
theorem loss_first (c : Dev nD) (i : grid1.Coords) (hc : firstPt i) (a2 : Memref sig .tc .vmem S512x512 .bf16) (h2 : a2.IsWhole)
    (a3 : Memref sig .tc .vmem S512x128 .f32) (h3 : a3.IsWhole) (a4 : Memref sig .tc .vmem S16x1x512 .f32) (h4 : a4.IsWhole)
    (a5 : Memref sig .tc .vmem S1x1 .f32) (h5 : a5.IsWhole) (a6 : Memref sig .tc .vmem S1x1 .f32) (h6 : a6.IsWhole)
    (a7 : Memref sig .tc .vmem S16x512x512 .bf16) (h7 : a7.IsWhole)
    (x : Vec F S512x512 .bf16) (lr : Vec F S512x128 .f32) (lc : Vec F S16x1x512 .f32) (G : ColsBuf (F := F) c (Memref.whole main_v0_0)) (W : Waits sig Unit) (K : PUnit → sProp 𝕄) :
    iprop(owns (c : Thread nD τ) a2 fullShare x ∗ owns (c : Thread nD τ) a3 fullShare lr ∗ owns (c : Thread nD τ) a4 fullShare lc
        ∗ (∃ d, owns (c : Thread nD τ) a5 fullShare d) ∗ (∃ d, owns (c : Thread nD τ) a6 fullShare d) ∗ (∃ d, owns (c : Thread nD τ) a7 fullShare d)
        ∗ semVal ((c : Thread nD τ), SemLoc.dma 13) 0 ∗ colsPt c (Memref.whole main_v0_0) G ∗ owes (c : Thread nD τ) 0 W
        ∗ (iprop(owns (c : Thread nD τ) a2 fullShare x ∗ owns (c : Thread nD τ) a3 fullShare lr ∗ owns (c : Thread nD τ) a4 fullShare lc
          ∗ owns (c : Thread nD τ) a5 fullShare ((lossNext (View.ld x rowsRect) (View.ld lr labsRect) lc G i k1_pay3))
          ∗ owns (c : Thread nD τ) a6 fullShare ((countNext (View.ld x rowsRect) (View.ld lr labsRect) lc G i k1_pay4))
          ∗ owns (c : Thread nD τ) a7 fullShare G
          ∗ semVal ((c : Thread nD τ), SemLoc.dma 13) 0 ∗ colsPt c (Memref.whole main_v0_0) G ∗ (∃ W', owes (c : Thread nD τ) 0 W')) -∗ K ⟨⟩))
      ⊢ wp frame (wpE (defs₀ (F := F)) Variants.none c none) Set.univ (cc1__loss_kernel i (Memref.whole main_v0_0) (Memref.isWhole_whole _) a2 h2 a3 h3 a4 h4 a5 h5 a6 h6 a7 h7 cc1_scratch1) K := by
  simp only [cc1__loss_kernel_eq_skeleton]; unfold cc1__loss_kernel_skel
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, Hq, HG, HW, Hk⟩
  subst hf2 hf3 hf4
  sl_exec (disch := first | sl_exact hc)
  sl_step
  have hG : a7.view.read (Elt F) (a7.view.writes (Elt F) a7.view.junk [⟨Rect.whole S16x512x512, (G : Vec F S16x512x512 .bf16)⟩]) = G := by
    rw [View.read_writes_junk_eq_canon]
    exact View.canon_unit_zero rfl _ _
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (read_one _ _ _ _).trans (Eq.trans (b := lossNext (View.ld (a2.view.read (Elt F) f2) rowsRect) (View.ld (a3.view.read (Elt F) f3) labsRect)
      (a4.view.read (Elt F) f4) (a7.view.read (Elt F) (a7.view.writes (Elt F) a7.view.junk [⟨Rect.whole S16x512x512, (G : Vec F S16x512x512 .bf16)⟩])) i
      (a5.view.readCov [⟨oneRect, k1_pay3⟩] oneRect.toLoadRect)) rfl ?_)
    rw [hG, View.readCov_cons_toLoadRect]
  isplitl [H6]
  · iexists _; isplitr
    swap; · iexact H6
    ipureintro
    refine (read_one _ _ _ _).trans (Eq.trans (b := countNext (View.ld (a2.view.read (Elt F) f2) rowsRect) (View.ld (a3.view.read (Elt F) f3) labsRect)
      (a4.view.read (Elt F) f4) (a7.view.read (Elt F) (a7.view.writes (Elt F) a7.view.junk [⟨Rect.whole S16x512x512, (G : Vec F S16x512x512 .bf16)⟩])) i
      (a6.view.readCov [⟨oneRect, k1_pay4⟩] oneRect.toLoadRect)) rfl ?_)
    rw [hG, View.readCov_cons_toLoadRect]
  isplitl [H7]
  · iexists _; isplitr
    swap; · iexact H7
    ipureintro; exact hG
  isplitl [Hq]; · iexact Hq
  isplitl [HG]; · iexact HG
  iexists _; iexact HW

end Cert.Loss

end
-- ==== Proof.LossDat.lean ====
/-
  The second kernel call's proof data. Point 0 copies the transposed blocks to scratch and starts both sums; every later
  point finds the sums where the point before left them. The body's obligation at a generic point, in those two cases.
-/
module

public import proofs.«01_k».proof.Proof.LossBody
public import proofs.«01_k».proof.Proof.Gen.KernelIdeal.Launch
public import Idealize.ShloMosaic.Lib.Pipeline.Regions

@[expose] public section

set_option maxRecDepth 16384

noncomputable section

namespace Cert.Loss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (Pipeline.UD sig nD τ) ℕ

variable (V : Dev nD → Valuation τ sig (Elt F))

/-- What point `t` reads: its scaled rows, their labels, every label, and the transposed blocks. -/
def lossRows (c : Dev nD) (t : Fin cfg1.N) : Vec F S512x512 .bf16 := ((cfg1.win 0).blk t).view.read (Elt F) (V c (Pipeline.arrRef spec1 0))
def lossLabs (c : Dev nD) (t : Fin cfg1.N) : Vec F S512x128 .f32 := ((cfg1.win 1).blk t).view.read (Elt F) (V c (Pipeline.arrRef spec1 1))
def lossAll (c : Dev nD) (t : Fin cfg1.N) : Vec F S16x1x512 .f32 := ((cfg1.win 2).blk t).view.read (Elt F) (V c (Pipeline.arrRef spec1 2))
def lossCols (c : Dev nD) : ColsBuf (F := F) c (Memref.whole main_v0_0) := V c (Proc.devRef .tc main_v0_0)

/-- Both sums after the first `n` points. -/
def lossUpto (c : Dev nD) : ℕ → Vec F S1x1 .f32
  | 0 => k1_pay3
  | n + 1 => if h : n < cfg1.N then
      lossNext (View.ld (lossRows V c ⟨n, h⟩) rowsRect) (View.ld (lossLabs V c ⟨n, h⟩) labsRect) (lossAll V c ⟨n, h⟩) (lossCols V c) (grid1.coords ⟨n, h⟩) (lossUpto c n)
    else lossUpto c n
def countUpto (c : Dev nD) : ℕ → Vec F S1x1 .f32
  | 0 => k1_pay4
  | n + 1 => if h : n < cfg1.N then
      countNext (View.ld (lossRows V c ⟨n, h⟩) rowsRect) (View.ld (lossLabs V c ⟨n, h⟩) labsRect) (lossAll V c ⟨n, h⟩) (lossCols V c) (grid1.coords ⟨n, h⟩) (countUpto c n)
    else countUpto c n

theorem lossUpto_succ (c : Dev nD) (t : Fin cfg1.N) : lossUpto V c (t.val + 1) =
    lossNext (View.ld (lossRows V c t) rowsRect) (View.ld (lossLabs V c t) labsRect) (lossAll V c t) (lossCols V c) (grid1.coords t) (lossUpto V c t.val) := by
  rw [lossUpto, dif_pos t.isLt]
theorem countUpto_succ (c : Dev nD) (t : Fin cfg1.N) : countUpto V c (t.val + 1) =
    countNext (View.ld (lossRows V c t) rowsRect) (View.ld (lossLabs V c t) labsRect) (lossAll V c t) (lossCols V c) (grid1.coords t) (countUpto V c t.val) := by
  rw [countUpto, dif_pos t.isLt]

/-- The call's scratch, its own copy semaphore, and what it holds besides between points: the first call's staging
    buffers, the generator register, that semaphore at zero, the transposed blocks where the first call left them. -/
abbrev scratchM : Memref sig .tc .vmem S16x512x512 .bf16 := Memref.whole cc1_scratch0
def ownSem : Fin 1 → SemLoc sig := fun j => (![SemLoc.dma 13] : Fin 1 → SemLoc sig) j
def besides (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ r, prngReg c r))

/-- Scratch before point `n`: anything at first, the transposed blocks after. -/
def scratchAt (c : Dev nD) (n : ℕ) : sProp 𝕄 :=
  if n = 0 then iprop(∃ d, owns (c : Thread nD τ) scratchM fullShare d) else owns (c : Thread nD τ) scratchM fullShare (lossCols V c)

/-- The proof data. -/
def lossDat (c : Dev nD) : Dat τ (Elt F) Unit ℕ (Pipeline.UD sig nD τ) ℕ cfg1 c where
  A w := V c (Pipeline.arrRef spec1 w)
  after w t := match w with
    | ⟨0, _⟩ => lossRows V c t
    | ⟨1, _⟩ => lossLabs V c t
    | ⟨2, _⟩ => lossAll V c t
    | ⟨3, _⟩ => lossUpto V c (t.val + 1)
    | ⟨4, _⟩ => countUpto V c (t.val + 1)
  Φ t := iprop(scratchAt V c t.val ∗ besides c ∗ semVal ((c : Thread nD τ), SemLoc.dma 13) 0 ∗ colsPt c (Memref.whole main_v0_0) (lossCols V c))
  q _ := fullShare
  owed _ := 0

theorem lossDat_A (c : Dev nD) (w : Fin cfg1.W) : (lossDat V c).A w = V c (Pipeline.arrRef spec1 w) := by dsimp only [lossDat]
theorem lossDat_after0 (c : Dev nD) (t : Fin cfg1.N) : (lossDat V c).after 0 t = lossRows V c t := by dsimp only [lossDat]
theorem lossDat_after1 (c : Dev nD) (t : Fin cfg1.N) : (lossDat V c).after 1 t = lossLabs V c t := by dsimp only [lossDat]
theorem lossDat_after2 (c : Dev nD) (t : Fin cfg1.N) : (lossDat V c).after 2 t = lossAll V c t := by dsimp only [lossDat]
theorem lossDat_after3 (c : Dev nD) (t : Fin cfg1.N) : (lossDat V c).after 3 t = lossUpto V c (t.val + 1) := by dsimp only [lossDat]
theorem lossDat_after4 (c : Dev nD) (t : Fin cfg1.N) : (lossDat V c).after 4 t = countUpto V c (t.val + 1) := by dsimp only [lossDat]

/-- The three inputs' buffers hold their blocks when the body runs. -/
theorem lossDat_before0 (c : Dev nD) (t : Fin cfg1.N) (d) : (lossDat V c).before 0 t d = lossRows V c t :=
  ((lossDat V c).before_in_eq_fetched 0 rfl (fun _ => rfl) (fun _ _ _ => rfl)
      (fun t => by rw [lossDat_after0]; unfold Dat.blockOf lossRows; rw [lossDat_A]; try rfl) t d).trans
    (by unfold Dat.fetched Dat.blockOf lossRows; rw [lossDat_A]; try rfl)
theorem lossDat_before1 (c : Dev nD) (t : Fin cfg1.N) (d) : (lossDat V c).before 1 t d = lossLabs V c t :=
  ((lossDat V c).before_in_eq_fetched 1 rfl (fun _ => rfl) (fun _ _ _ => rfl)
      (fun t => by rw [lossDat_after1]; unfold Dat.blockOf lossLabs; rw [lossDat_A]; try rfl) t d).trans
    (by unfold Dat.fetched Dat.blockOf lossLabs; rw [lossDat_A]; try rfl)
theorem lossDat_before2 (c : Dev nD) (t : Fin cfg1.N) (d) : (lossDat V c).before 2 t d = lossAll V c t :=
  ((lossDat V c).before_in_eq_fetched 2 rfl (fun _ => rfl) (fun _ _ _ => rfl)
      (fun t => by rw [lossDat_after2]; unfold Dat.blockOf lossAll; rw [lossDat_A]; try rfl) t d).trans
    (by unfold Dat.fetched Dat.blockOf lossAll; rw [lossDat_A]; try rfl)

theorem points1 : cfg1.N = 16 := N_1

/-- Past the first point the two sums hold what the points before left. -/
theorem lossDat_before3 (c : Dev nD) (t : Fin cfg1.N) (ht : t.val ≠ 0) (d) : (lossDat V c).before 3 t d = lossUpto V c t.val := by
  have hN : t.val < 16 := lt_of_lt_of_eq t.isLt points1
  rw [(lossDat V c).before_out_kept 3 rfl t ht (Bool.eq_false_iff.mpr fun h => by have := (flush1_3 _).mp h; dsimp only at this; omega)
    (fun _ => rfl) (fun _ _ => rfl) d, lossDat_after3]
  dsimp only; rw [Nat.sub_add_cancel (Nat.pos_of_ne_zero ht)]
theorem lossDat_before4 (c : Dev nD) (t : Fin cfg1.N) (ht : t.val ≠ 0) (d) : (lossDat V c).before 4 t d = countUpto V c t.val := by
  have hN : t.val < 16 := lt_of_lt_of_eq t.isLt points1
  rw [(lossDat V c).before_out_kept 4 rfl t ht (Bool.eq_false_iff.mpr fun h => by have := (flush1_4 _).mp h; dsimp only at this; omega)
    (fun _ => rfl) (fun _ _ => rfl) d, lossDat_after4]
  dsimp only; rw [Nat.sub_add_cancel (Nat.pos_of_ne_zero ht)]

/-- The kernel's test for the first point. -/
theorem firstPt_iff (t : Fin cfg1.N) : firstPt (grid1.coords t) ↔ t.val = 0 := by
  have ht : t.val < 16 := lt_of_lt_of_eq t.isLt points1
  have e0 : (grid1.coords t 0).val = t.val / 1 % 16 := Pipeline.Grid.coords_val t 0 (by decide) rfl
  have key : firstPt (grid1.coords t) ↔ t.val % 16 = 0 := by
    simp only [firstPt, e0]; word_cmp
  rw [key]; omega

theorem one_ld (a : Vec F S1x1 .f32) : View.ld a oneRect = a := View.ld_unit_zero (by funext j; fin_cases j <;> rfl) _ a

/-- The obligation. -/
theorem loss_obligation (c : Dev nD) : BodyObligation (lossDat V c) (defs₀ (F := F)) Variants.none () Set.univ := fun t => by
  rw [bigSep_W1, bigSep_W1, show defs₀ (F := F) .tc cfg1.body (cfg1.bodyArgs t (cfg1.slots t)) = bodyAt1 t from by unfold defs₀; rw [Defs.onTc_tc]]
  refine triple_restated (P := iprop((lossDat V c).Φ t.castSucc ∗ (lossDat V c).owesAt () t.castSucc
      ∗ (∃ d, owns (c : Thread nD τ) (st1_0 t) fullShare ((lossDat V c).before 0 t d))
      ∗ (∃ d, owns (c : Thread nD τ) (st1_1 t) fullShare ((lossDat V c).before 1 t d))
      ∗ (∃ d, owns (c : Thread nD τ) (st1_2 t) fullShare ((lossDat V c).before 2 t d))
      ∗ (∃ d, owns (c : Thread nD τ) (st1_3 t) fullShare ((lossDat V c).before 3 t d))
      ∗ (∃ d, owns (c : Thread nD τ) (st1_4 t) fullShare ((lossDat V c).before 4 t d))))
    (Q := fun _ => iprop((lossDat V c).Φ t.succ ∗ (lossDat V c).owesAt () t.succ
      ∗ owns (c : Thread nD τ) (st1_0 t) fullShare ((lossDat V c).after 0 t)
      ∗ owns (c : Thread nD τ) (st1_1 t) fullShare ((lossDat V c).after 1 t)
      ∗ owns (c : Thread nD τ) (st1_2 t) fullShare ((lossDat V c).after 2 t)
      ∗ owns (c : Thread nD τ) (st1_3 t) fullShare ((lossDat V c).after 3 t)
      ∗ owns (c : Thread nD τ) (st1_4 t) fullShare ((lossDat V c).after 4 t))) ?_ rfl .rfl fun _ => .rfl
  simp only [lossDat_before0, lossDat_before1, lossDat_before2]
  rw [lossDat_after0, lossDat_after1, lossDat_after2, lossDat_after3, lossDat_after4, lossUpto_succ, countUpto_succ]
  rw [show (lossDat V c).Φ t.castSucc = iprop(scratchAt V c t.val ∗ besides c ∗ semVal ((c : Thread nD τ), SemLoc.dma 13) 0 ∗ colsPt c (Memref.whole main_v0_0) (lossCols V c)) from rfl,
    show (lossDat V c).Φ t.succ = iprop(scratchAt V c (t.val + 1) ∗ besides c ∗ semVal ((c : Thread nD τ), SemLoc.dma 13) 0 ∗ colsPt c (Memref.whole main_v0_0) (lossCols V c)) from rfl]
  rw [show scratchAt V c (t.val + 1) = owns (c : Thread nD τ) scratchM fullShare (lossCols V c) from if_neg (Nat.succ_ne_zero _)]
  unfold Dat.owesAt Pipeline.owesWithin
  rw [show (lossDat V c).owed t.castSucc = 0 from rfl, show (lossDat V c).owed t.succ = 0 from rfl]
  by_cases h0 : t.val = 0
  · rw [show scratchAt V c t.val = iprop(∃ d, owns (c : Thread nD τ) scratchM fullShare d) from if_pos h0,
      show lossUpto V c t.val = k1_pay3 from by rw [h0, lossUpto], show countUpto V c t.val = k1_pay4 from by rw [h0, countUpto]]
    iintro ⟨⟨HS, Hb, Hq, HG⟩, ⟨%W, -, HW⟩, ⟨%d0, H0⟩, ⟨%d1, H1⟩, ⟨%d2, H2⟩, ⟨%d3, H3⟩, ⟨%d4, H4⟩⟩
    iapply (loss_first c (grid1.coords t) ((firstPt_iff t).mpr h0) _ _ _ _ _ _ _ _ _ _ _ _ (lossRows V c t) (lossLabs V c t) (lossAll V c t) (lossCols V c) W _)
    isplitl [H0]; · iexact H0
    isplitl [H1]; · iexact H1
    isplitl [H2]; · iexact H2
    isplitl [H3]; · iexists _; iexact H3
    isplitl [H4]; · iexists _; iexact H4
    isplitl [HS]; · iexact HS
    isplitl [Hq]; · iexact Hq
    isplitl [HG]; · iexact HG
    isplitl [HW]; · iexact HW
    iintro ⟨H0, H1, H2, H3, H4, HS, Hq, HG, ⟨%W', HW⟩⟩
    isplitl [HS Hb Hq HG]
    · isplitl [HS]; · iexact HS
      isplitl [Hb]; · iexact Hb
      isplitl [Hq]; · iexact Hq
      iexact HG
    isplitl [HW]
    · iexists W'; isplitr; · ipureintro; exact fun _ _ => Or.inl trivial
      iexact HW
    isplitl [H0]; · iexact H0
    isplitl [H1]; · iexact H1
    isplitl [H2]; · iexact H2
    isplitl [H3]; · iexact H3
    iexact H4
  · rw [show scratchAt V c t.val = owns (c : Thread nD τ) scratchM fullShare (lossCols V c) from if_neg h0]
    simp only [lossDat_before3 V c t h0, lossDat_before4 V c t h0]
    iintro ⟨⟨HS, Hb, Hq, HG⟩, ⟨%W, -, HW⟩, ⟨%d0, H0⟩, ⟨%d1, H1⟩, ⟨%d2, H2⟩, ⟨%d3, H3⟩, ⟨%d4, H4⟩⟩
    iapply (loss_later c (grid1.coords t) (fun h => h0 ((firstPt_iff t).mp h)) _ _ _ _ _ _ _ _ _ _ _ _ (lossRows V c t) (lossLabs V c t) (lossAll V c t) (lossCols V c) (lossUpto V c t.val) (countUpto V c t.val) _)
    rw [one_ld, one_ld]
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hb Hq HG]
    · isplitl [HS]; · iexact HS
      isplitl [Hb]; · iexact Hb
      isplitl [Hq]; · iexact Hq
      iexact HG
    isplitl [HW]
    · iexists W; isplitr; · ipureintro; exact fun _ _ => Or.inl trivial
      iexact HW
    isplitl [H0]; · iexact H0
    isplitl [H1]; · iexact H1
    isplitl [H2]; · iexact H2
    isplitl [H3]; · iexact H3
    iexact H4

end Cert.Loss

end
-- ==== Proof.Run.lean ====
/-
  The program's run: the two calls' records over one thread state (every array held whole, nothing owed, the generator
  register at something), the launch, and what every final state holds. The arguments end as launched, the result is
  what the last stretch of host operations computes from what the calls left, and every counter is zero.
-/
module

public import proofs.«01_k».proof.Proof.NormBody
public import proofs.«01_k».proof.Proof.LossDat
public import Idealize.ShloMosaic.Lib.Pipeline.RegionArraysS
public import Idealize.ShloMosaic.Lib.Pipeline.RegionArraysD

@[expose] public section

set_option maxRecDepth 16384

noncomputable section

namespace Cert.Loss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation RegionSeg HostSeg Seg afterRegion)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- What the first call leaves, and then what each call leaves. -/
def outsA : Outs (F := F) := fun _ r c => afterRegion (normDat m c) (V0 m c) (Proc.devRef .tc r)
def entry (c : Dev nD) : Valuation τ sig (Elt F) := V2 m (outsA m) c
def outs : Outs (F := F)
  | 1, r, c => outsA m 1 r c
  | _, r, c => afterRegion (lossDat (entry m) c) (entry m c) (Proc.devRef .tc r)

theorem entry_eq (c : Dev nD) : V2 m (outs m) c = entry m c := rfl

/-- Both calls' proof data. -/
def pdats : (p : Fin 2) → (c : Dev nD) → Dat τ (Elt F) Unit ℕ (Pipeline.UD sig nD τ) ℕ (cfgs p) c
  | 0 => fun c => normDat m c
  | 1 => fun c => lossDat (entry m) c

/-- The first call changes its two results only, the second its two results only. -/
theorem after_norm (c : Dev nD) (b : DevRef τ sig) (hb : b ∈ Pipeline.ucRefs τ sig) :
    afterRegion (normDat m c) (V0 m c) b = V1 m (outs m) c b := by
  obtain ⟨r, -, e⟩ := Finset.mem_map.mp (Finset.mem_filter.mp hb).1
  obtain rfl : Proc.devRef .tc r = b := e
  by_cases h1 : r = main_v0_1
  · subst h1
    rw [V1, Function.update_self]; rfl
  by_cases h0 : r = main_v0_0
  · subst h0
    have h : (Proc.devRef .tc main_v0_0 : DevRef τ sig) ≠ Proc.devRef .tc main_v0_1 := StableHlo.devRef_ne_of_ne (by decide)
    rw [V1, Function.update_of_ne h, Function.update_self]; rfl
  refine Eq.trans ?_ (V1_of m (outs m) c r (by simp [h0, h1])).symm
  refine Pipeline.afterRegion_keeps (normDat m c) (V0 m c) launch0.win.arr_inj (fun w => normDat_A m c w) r fun w e => ?_
  fin_cases w
  · rfl
  · exact absurd e.symm h0
  · exact absurd e.symm h1

theorem after_loss (c : Dev nD) (b : DevRef τ sig) (hb : b ∈ Pipeline.ucRefs τ sig) :
    afterRegion (lossDat (entry m) c) (entry m c) b = V3 m (outs m) c b := by
  obtain ⟨r, -, e⟩ := Finset.mem_map.mp (Finset.mem_filter.mp hb).1
  obtain rfl : Proc.devRef .tc r = b := e
  by_cases h0 : r = main_v0_0
  · subst h0
    rw [V3, Function.update_self]; rfl
  by_cases h2 : r = main_v5_1
  · subst h2
    have h : (Proc.devRef .tc main_v5_1 : DevRef τ sig) ≠ Proc.devRef .tc main_v0_0 := StableHlo.devRef_ne_of_ne (by decide)
    rw [V3, Function.update_of_ne h, Function.update_self]; rfl
  by_cases h1 : r = main_v5_0
  · subst h1
    have h : (Proc.devRef .tc main_v5_0 : DevRef τ sig) ≠ Proc.devRef .tc main_v0_0 := StableHlo.devRef_ne_of_ne (by decide)
    have h' : (Proc.devRef .tc main_v5_0 : DevRef τ sig) ≠ Proc.devRef .tc main_v5_1 := StableHlo.devRef_ne_of_ne (by decide)
    rw [V3, Function.update_of_ne h, Function.update_of_ne h', Function.update_self]; rfl
  refine Eq.trans ?_ (V3_of m (outs m) c r (by simp [h0, h1, h2])).symm
  refine Pipeline.afterRegion_keeps (lossDat (entry m) c) (entry m c) launch1.win.arr_inj (fun w => lossDat_A (entry m) c w) r fun w e => ?_
  fin_cases w
  · rfl
  · rfl
  · rfl
  · exact absurd e.symm h1
  · exact absurd e.symm h2

/-- Every staging wait may be waited for, at level 0, with nothing owed. -/
abbrev lvs : GSem nD τ sig → Finset Unit := fun g => if g.1.2 = .tc then {()} else ∅
abbrev lev : GSem nD τ sig → Unit → ℕ := fun _ _ => 0
abbrev none0 : Dev nD → CellTallies nD τ sig Unit := fun _ => 0

theorem cut (p : Fin 2) : Pipeline.LevelCut (pcfgs (F := F)) adm () lvs lev p none0 (fun _ => (0 : ℕ)) where
  hι c w s := by simp [lvs]
  hιb c w s := le_rfl
  hD c g i h := absurd h (by simp [none0])

/-- What rides beside the arrays: nothing owed, the generator register. -/
abbrev rest (c : Dev nD) : sProp 𝕄 :=
  iprop((∃ Wd, owes (c : Thread nD τ) (0 : CellTallies nD τ sig Unit) Wd) ∗ (∃ r, prngReg c r) ∗ emp)

theorem ownSemFacts : Pipeline.OwnSemFacts spec1 ownSem := by decide
theorem ownSems_eq (c : Dev nD) :
    (Pipeline.ownSems0 (Ix := Unit) (Name := ℕ) (U := Pipeline.UD sig nD τ) (Lvl := ℕ) (Val := Elt F) (τ := τ) ownSem c : sProp 𝕄)
      = semVal ((c : Thread nD τ), SemLoc.dma 13) 0 := by
  rw [Pipeline.ownSems0_eq_of_list c ownSem [0] (by decide) (by decide)]; rfl

/-- The operand left in HBM. -/
def hbmRef : Finset (Ref sig .tc) := {main_v0_0}
theorem hbm_eq (c : Dev nD) (W : Valuation τ sig (Elt F)) :
    (BI.bigSep hbmRef fun b => ((c.tc : Thread nD τ).loc b) ↦{fullShare} W (Proc.devRef .tc b) : sProp 𝕄)
      = iprop(((c.tc : Thread nD τ).loc main_v0_0) ↦{fullShare} W (Proc.devRef .tc main_v0_0)) := by
  rw [BI.bigSep_eq_bigSepL_of_eq [main_v0_0] (by decide) (by decide)]; rfl

theorem arrs0_sub : Pipeline.arrRefs (τ := τ) spec0 ⊆ Pipeline.ucRefs τ sig := Pipeline.arrRefs_sub_ucRefs spec0 (by decide)
theorem arrs1_sub : Pipeline.arrRefs (τ := τ) spec1 ⊆ Pipeline.ucRefs τ sig := Pipeline.arrRefs_sub_ucRefs spec1 (by decide)

theorem hbm_sub : Pipeline.hbmRefs (τ := τ) hbmRef ⊆ Pipeline.ucRefs τ sig \ Pipeline.arrRefs (τ := τ) spec1 := by
  intro b hb
  obtain ⟨r, hr, rfl⟩ := Finset.mem_map.mp hb
  rw [hbmRef, Finset.mem_singleton] at hr
  subst hr
  refine Finset.mem_sdiff.mpr ⟨Finset.mem_filter.mpr ⟨StableHlo.devRef_mem_tcRefs _, by decide⟩, fun h => ?_⟩
  obtain ⟨r, hr, e⟩ := Finset.mem_map.mp h
  obtain ⟨w, -, rfl⟩ := Finset.mem_image.mp hr
  have e' : Pipeline.arrRef spec1 w = main_v0_0 := Proc.devRef_injective _ e
  revert e'; revert w; decide

theorem scratchAt_first (V : Dev nD → Valuation τ sig (Elt F)) (c : Dev nD) :
    scratchAt V c 0 = iprop(∃ d, owns (c : Thread nD τ) scratchM fullShare d) := if_pos rfl
theorem scratchAt_later (V : Dev nD → Valuation τ sig (Elt F)) (c : Dev nD) (n : ℕ) (h : n ≠ 0) :
    scratchAt V c n = owns (c : Thread nD τ) scratchM fullShare (lossCols V c) := if_neg h

/-- The second call's invariant from what it is entered with, and what it gives back. -/
theorem loss_enter (V : Dev nD → Valuation τ sig (Elt F)) (c : Dev nD) (P : sProp 𝕄) :
    iprop(Pipeline.scopedRest spec1 c ∗ (∃ r, prngReg c r) ∗ semVal ((c : Thread nD τ), SemLoc.dma 13) 0
      ∗ (((c.tc : Thread nD τ).loc main_v0_0) ↦{fullShare} V c (Proc.devRef .tc main_v0_0)) ∗ P) ⊢ (lossDat V c).Φ 0 := by
  rw [show (lossDat V c).Φ 0 = iprop(scratchAt V c 0 ∗ besides c ∗ semVal ((c : Thread nD τ), SemLoc.dma 13) 0 ∗ colsPt c (Memref.whole main_v0_0) (lossCols V c)) from rfl,
    scratchAt_first, scopedRest1_eq]
  simp only [owns_whole]
  unfold besides
  iintro ⟨⟨H0, H1, H2, H3, H4, H5, HS⟩, Hp, Hq, HH, -⟩
  isplitl [HS]; · iexact HS
  isplitl [H0 H1 H2 H3 H4 H5 Hp]
  · isplitl [H0]; · iexact H0
    isplitl [H1]; · iexact H1
    isplitl [H2]; · iexact H2
    isplitl [H3]; · iexact H3
    isplitl [H4]; · iexact H4
    isplitl [H5]; · iexact H5
    iexact Hp
  isplitl [Hq]; · iexact Hq
  iexact HH

theorem loss_leave (V : Dev nD → Valuation τ sig (Elt F)) (c : Dev nD) :
    (lossDat V c).Φ (Fin.last cfg1.N) ⊢ iprop(Pipeline.scopedRest spec1 c ∗ (∃ r, prngReg c r) ∗ semVal ((c : Thread nD τ), SemLoc.dma 13) 0
      ∗ (((c.tc : Thread nD τ).loc main_v0_0) ↦{fullShare} V c (Proc.devRef .tc main_v0_0))) := by
  rw [show (lossDat V c).Φ (Fin.last cfg1.N) = iprop(scratchAt V c (Fin.last cfg1.N).val ∗ besides c ∗ semVal ((c : Thread nD τ), SemLoc.dma 13) 0 ∗ colsPt c (Memref.whole main_v0_0) (lossCols V c)) from rfl,
    scratchAt_later V c _ (by rw [Fin.val_last, points1]; decide), scopedRest1_eq]
  simp only [owns_whole]
  unfold besides
  iintro ⟨HS, ⟨H0, H1, H2, H3, H4, H5, Hp⟩, Hq, HH⟩
  isplitl [HS H0 H1 H2 H3 H4 H5]
  · isplitl [H0]; · iexact H0
    isplitl [H1]; · iexact H1
    isplitl [H2]; · iexact H2
    isplitl [H3]; · iexact H3
    isplitl [H4]; · iexact H4
    isplitl [H5]; · iexact H5
    iexists _; iexact HS
  isplitl [Hp]; · iexact Hp
  isplitl [Hq]; · iexact Hq
  iexact HH

/-- The thread state taken apart for a call over the arrays `A`, and put together after it. -/
theorem enter_arrs (c : Dev nD) {A : Finset (DevRef τ sig)} (hA : A ⊆ Pipeline.ucRefs τ sig) (W : Valuation τ sig (Elt F)) :
    iprop(StableHlo.held (c : Thread nD τ) (Pipeline.ucRefs τ sig) W ∗ rest c)
      ⊢ (iprop(StableHlo.held (c.tc : Thread nD τ) A W ∗ (∃ r, prngReg c r) ∗ (StableHlo.held (c.tc : Thread nD τ) (Pipeline.ucRefs τ sig \ A) W ∗ emp)
        ∗ ∃ Wd, owes (c : Thread nD τ) 0 Wd) : sProp 𝕄) := by
  rw [StableHlo.held_sub_split (c.tc : Thread nD τ) hA W]
  iintro ⟨⟨Ha, Hr⟩, HO, Hp, He⟩
  isplitl [Ha]; · iexact Ha
  isplitl [Hp]; · iexact Hp
  isplitl [Hr He]
  · isplitl [Hr]; · iexact Hr
    iexact He
  iexact HO
theorem leave_arrs (c : Dev nD) {A : Finset (DevRef τ sig)} (hA : A ⊆ Pipeline.ucRefs τ sig) {W W' : Valuation τ sig (Elt F)}
    (h : ∀ b ∈ Pipeline.ucRefs τ sig \ A, W' b = W b) :
    iprop(StableHlo.held (c.tc : Thread nD τ) A W' ∗ (∃ r, prngReg c r) ∗ (StableHlo.held (c.tc : Thread nD τ) (Pipeline.ucRefs τ sig \ A) W ∗ emp)
        ∗ ∃ Wd, owes (c : Thread nD τ) 0 Wd)
      ⊢ (iprop(StableHlo.held (c : Thread nD τ) (Pipeline.ucRefs τ sig) W' ∗ rest c) : sProp 𝕄) := by
  rw [StableHlo.held_sub_split (c.tc : Thread nD τ) hA W', StableHlo.held_congr (c.tc : Thread nD τ) h]
  iintro ⟨Ha, Hp, ⟨Hr, He⟩, HO⟩
  isplitl [Ha Hr]
  · isplitl [Ha]; · iexact Ha
    iexact Hr
  isplitl [HO]; · iexact HO
  isplitl [Hp]; · iexact Hp
  iexact He

set_option backward.isDefEq.respectTransparency.types false in
/-- The first call. -/
def seg0 : RegionSeg (pcfgs (F := F)) adm (pdats m) () defs₀ Variants.none lvs lev 0 :=
  RegionSeg.ofHeldIn pcfgs adm (pdats m) () defs₀ Variants.none lvs lev 0 none0 (Pipeline.ucRefs τ sig)
    (fun c => iprop(∃ r, prngReg c r)) (fun c => iprop(∃ r, prngReg c r)) launch0.toP rfl
    (fun c => (norm_obligation m c).loose) (fun _ _ => rfl) (fun _ => rfl) (fun c => (normDat m c).share_full fun _ => rfl)
    (fun _ => .rfl) (fun _ => .rfl) (fun _ => 0) (cut 0) (fun _ => iprop(emp)) (V0 m)
    (fun c w => normDat_A m c w)

set_option backward.isDefEq.respectTransparency.types false in
/-- The second call. -/
def seg2 : RegionSeg (pcfgs (F := F)) adm (pdats m) () defs₀ Variants.none lvs lev 1 :=
  RegionSeg.ofHeldDH pcfgs adm (pdats m) () defs₀ Variants.none lvs lev 1 none0 () ownSem ownSemFacts hbmRef
    (Pipeline.ucRefs τ sig \ Pipeline.arrRefs (τ := τ) spec1) hbm_sub launch1.toP rfl
    (fun c => (loss_obligation (entry m) c).loose) (fun _ _ => rfl) (fun _ => rfl) (fun c => (lossDat (entry m) c).share_full fun _ => rfl)
    (fun c => by iintro -; iapply (Transfers.MayWaits.zero (c : Thread nD τ) ()); iempintro)
    (entry m) (fun c => afterRegion (lossDat (entry m) c) (entry m c))
    (fun c => by rw [ownSems_eq, hbm_eq]; exact loss_enter (entry m) c _)
    (fun c => by rw [ownSems_eq, hbm_eq]; exact loss_leave (entry m) c)
    (fun _ => 0) (cut 1) (fun _ => iprop(emp)) (fun c w => lossDat_A (entry m) c w)
    (fun c w => (Pipeline.afterRegion_arr (lossDat (entry m) c) (entry m c) launch1.win.arr_inj w).symm)

theorem seg0_pre (c : Dev nD) : iprop(StableHlo.held (c : Thread nD τ) (Pipeline.ucRefs τ sig) (V0 m c) ∗ rest c) ⊢ (seg0 m).pre c := by
  rw [show (seg0 m).pre c = iprop(StableHlo.held (c.tc : Thread nD τ) (Pipeline.arrRefs spec0) (V0 m c) ∗ (∃ r, prngReg c r)
      ∗ (StableHlo.held (c.tc : Thread nD τ) (Pipeline.ucRefs τ sig \ Pipeline.arrRefs (τ := τ) spec0) (V0 m c) ∗ emp) ∗ ∃ Wd, owes (c : Thread nD τ) 0 Wd) from rfl]
  exact enter_arrs c arrs0_sub (V0 m c)
theorem seg0_post (c : Dev nD) : (seg0 m).post c ⊢ iprop(StableHlo.held (c : Thread nD τ) (Pipeline.ucRefs τ sig) (V1 m (outs m) c) ∗ rest c) := by
  rw [← StableHlo.held_congr (c : Thread nD τ) (after_norm m c),
    show (seg0 m).post c = iprop(StableHlo.held (c.tc : Thread nD τ) (Pipeline.arrRefs spec0) (afterRegion (normDat m c) (V0 m c)) ∗ (∃ r, prngReg c r)
      ∗ (StableHlo.held (c.tc : Thread nD τ) (Pipeline.ucRefs τ sig \ Pipeline.arrRefs (τ := τ) spec0) (V0 m c) ∗ emp) ∗ ∃ Wd, owes (c : Thread nD τ) 0 Wd) from rfl]
  exact leave_arrs c arrs0_sub (Pipeline.afterRegion_off (normDat m c) (V0 m c) _)

theorem seg2_pre (c : Dev nD) : iprop(StableHlo.held (c : Thread nD τ) (Pipeline.ucRefs τ sig) (V2 m (outs m) c) ∗ rest c) ⊢ (seg2 m).pre c := by
  rw [entry_eq, show (seg2 m).pre c = iprop(StableHlo.held (c.tc : Thread nD τ) (Pipeline.arrRefs spec1) (entry m c) ∗ (∃ r, prngReg c r)
      ∗ (StableHlo.held (c.tc : Thread nD τ) (Pipeline.ucRefs τ sig \ Pipeline.arrRefs (τ := τ) spec1) (entry m c) ∗ emp) ∗ ∃ Wd, owes (c : Thread nD τ) 0 Wd) from rfl]
  exact enter_arrs c arrs1_sub (entry m c)
theorem seg2_post (c : Dev nD) : (seg2 m).post c ⊢ iprop(StableHlo.held (c : Thread nD τ) (Pipeline.ucRefs τ sig) (V3 m (outs m) c) ∗ rest c) := by
  rw [← StableHlo.held_congr (c : Thread nD τ) (after_loss m c),
    show (seg2 m).post c = iprop(StableHlo.held (c.tc : Thread nD τ) (Pipeline.arrRefs spec1) (afterRegion (lossDat (entry m) c) (entry m c)) ∗ (∃ r, prngReg c r)
      ∗ (StableHlo.held (c.tc : Thread nD τ) (Pipeline.ucRefs τ sig \ Pipeline.arrRefs (τ := τ) spec1) (entry m c) ∗ emp) ∗ ∃ Wd, owes (c : Thread nD τ) 0 Wd) from rfl]
  exact leave_arrs c arrs1_sub (Pipeline.afterRegion_off (lossDat (entry m) c) (entry m c) _)

/-- What a final state holds, on each core. -/
def Final (c : Dev nD) (s : MemSt nD τ sig (Elt F)) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_v12) = V6 m (outs m) c main_v12

set_option backward.isDefEq.respectTransparency.types false in
/-- The run. -/
theorem kernel_run : θ_run defs (onTc (τ := τ) (main (F := F))) ⟨m, fun _ => 0, ρ⟩
    (fun r => (∀ c : Dev nD, Final m c r.2) ∧ r.2.sem = fun _ => 0) := by
  refine Pipeline.θ_run_regions_kit_dev_sems (pcfgs (F := F)) adm (pdats m) () cellOf_inj
    (embL : Emb (URounds (GSem nD τ sig) Unit) 𝕄) defs₀ Variants.none lvs lev m ρ main
    (segs m (outs m) Variants.none lvs lev (fun _ => rest) () (pdats m) (seg0 m) (seg2 m))
    (fun c Q => by
      rewrite [main_chain c, Seg.run_eq_chain,
        show (segs m (outs m) Variants.none lvs lev (fun _ => rest) () (pdats m) (seg0 m) (seg2 m) c).map Seg.prog = [
          Prog.lift (.customCall (Pipeline.entry 0) ()), StableHlo.seq hostOps1,
          Prog.lift (.customCall (Pipeline.entry 1) ()), StableHlo.seq hostOps2,
          StableHlo.seq hostOps2_1, StableHlo.seq hostOps2_2 ] from rfl]
      dsimp (config := { failIfUnchanged := false }) only
      exact .rfl)
    (fun c => by simp only [segs, Seg.pipes_host, Seg.pipes_region, Seg.pipes_nil]; decide) (O₀ := none0)
    (hL := fun g hg => if_neg hg) (G := fun _ => iprop(emp))
    (u₀ := (initOf (Pipeline.cells cfgs cellOf_inj) (Pipeline.launchToks cfgs cellOf_inj), 1)) ?_
    (T₀ := fun c => iprop(StableHlo.held (c : Thread nD τ) (Pipeline.ucRefs τ sig) (V0 m c) ∗ rest c))
    (Tₙ := fun c => StableHlo.held (c : Thread nD τ) (Pipeline.ucRefs τ sig) (V6 m (outs m) c))
    (hch := fun c => ⟨seg0_pre m c, seg0_post m c, seg2_pre m c, seg2_post m c, .rfl, .rfl, sep_mono .rfl ?_⟩)
    (hinit := ?_) (QY := fun c s => Final m c s) (hfin := fun c s' => ?_)
    (hQ := fun _ h hz => ⟨h, funext fun g => hz g (.inr (regions_no_unscoped g.2))⟩)
  · iintro Hu
    ihave H := (ownU_pair _ _) $$ Hu
    icases H with ⟨HP, -⟩
    imodintro
    isplitl [HP]; · iexact HP
    iapply (show (BI.emp : sProp 𝕄) ⊢ BI.bigSep Finset.univ (fun _ : Dev nD => (BI.emp : sProp 𝕄)) from by rw [BI.bigSep_emp_const])
    iempintro
  · iintro ⟨HO, -⟩; iexact HO
  · refine Pipeline.initEach lvs lev fun c => ?_
    rw [show unscopedBufs c (fun b => m ((c.tc : Thread nD τ).loc b)) = StableHlo.held (c : Thread nD τ) (Pipeline.ucRefs τ sig) (V0 m c) from
      Pipeline.unscopedBufs_held (Ix := Unit) (Name := ℕ) (U := Pipeline.UD sig nD τ) (Lvl := ℕ) c (V0 m c)]
    iintro ⟨⟨Hh, -, HO, -, Hp, -⟩, -⟩
    imodintro
    isplitl [Hh]; · iexact Hh
    isplitl [HO]; · iexists ∅; iexact HO
    isplitl [Hp]; · iexists _; iexact Hp
    iempintro
  · unfold StableHlo.held
    iintro ⟨Hh, HSI⟩
    ihave Hr := (pointsTo_read_all (Pipeline.ucRefs τ sig) (fun b => ((c : Thread nD τ).1, b)) (V6 m (outs m) c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (V6_main_arg0 m (outs m) c),
        (h (Proc.devRef .tc main_arg1) (Finset.mem_filter.mpr ⟨StableHlo.devRef_mem_tcRefs main_arg1, by decide⟩)).trans (V6_main_arg1 m (outs m) c),
        h (Proc.devRef .tc main_v12) (Finset.mem_filter.mpr ⟨StableHlo.devRef_mem_tcRefs main_v12, by decide⟩)⟩
    · iexact HSI

end Cert.Loss

end
-- ==== Proof.Frames.lean ====
/-
  The frames: each program ends without fault, its arguments unchanged and every counter at zero. The kernel's run is
  proved once for every reading of floats; the kernel as printed for words is the same text, the named scale being
  its own word there.
-/
module

public import proofs.«01_k».proof.Defs
public import proofs.«01_k».proof.Proof.Run
public import proofs.«01_k».proof.Proof.Gen.Kernel
public import proofs.«01_k».proof.Proof.Gen.Reference.Run
public import proofs.«01_k».proof.Proof.Gen.ReferenceIdeal.Run
public import Idealize.ShloMosaic.Lib.Quiescent

@[expose] public section

set_option maxRecDepth 16384

noncomputable section

namespace Cert.Loss

open Idealize.ShloMosaic Idealize.ShloMosaic.TcCoe Idealize.SL.Sem

/-- At words a named constant is its own word. -/
local instance namedWord : Named Bits := ⟨fun _ _ {φ} w => Scalar.ofBits φ w⟩
local instance : Cert.Kernel.Facts := Cert.Kernel.Gen.facts
local instance : Cert.KernelIdeal.Facts := Cert.KernelIdeal.Gen.facts

section SameText
set_option backward.isDefEq.respectTransparency.types false

/-- The two printings of the first call's body are one text at words. -/
theorem norm_same : @Cert.Kernel.cc0__normalize_kernel Bits _ _ = @Cert.KernelIdeal.cc0__normalize_kernel Bits _ _ _ := rfl

/-- The two printings of the second call's body are one text. -/
theorem loss_same : @Cert.Kernel.cc1__loss_kernel Bits _ _ = @Cert.KernelIdeal.cc1__loss_kernel Bits _ _ := rfl

/-- The two tables of bodies are one at words. -/
theorem bodies_same : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | 0, (t, s) => exact rfl
  | 1, (t, s) => exact rfl

theorem defs_same : Cert.Kernel.defs (F := Bits) = Cert.KernelIdeal.defs (F := Bits) :=
  congrArg (Pipeline.defs (Cert.Kernel.pcfgs (F := Bits))) bodies_same

/-- The kernel's frame at words: the run at words of the other printing. -/
theorem frame_kernel : Cert.quiescent_Kernel (hKernel := Cert.Kernel.Gen.facts) := by
  intro m g _
  have h := (θ_run (Cert.KernelIdeal.defs (F := Bits)) _ _).mono
    (Q' := fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)
    (fun r h => ⟨fun c => ⟨(h.1 c).1, (h.1 c).2.1⟩, h.2⟩) (kernel_run (F := Bits) m g)
  rw [← defs_same] at h
  exact h

end SameText

theorem frame_kernelIdeal : Cert.quiescent_KernelIdeal (hKernelIdeal := Cert.KernelIdeal.Gen.facts) := by
  intro m g _
  exact (θ_run _ _ _).mono (fun r h => ⟨fun c => ⟨(h.1 c).1, (h.1 c).2.1⟩, h.2⟩) (kernel_run (F := Ideal) m g)

theorem frame_reference : Cert.quiescent_Reference (hReference := Cert.Reference.Gen.facts) := by
  intro m g _
  exact (θ_run _ _ _).mono (fun r h => ⟨fun c => (h c).2, sem_eq_zero_of_no_sems (by decide) r.2⟩)
    (Cert.Reference.Value.run (F := Bits) m g)

theorem frame_referenceIdeal : Cert.quiescent_ReferenceIdeal (hReferenceIdeal := Cert.ReferenceIdeal.Gen.facts) := by
  intro m g _
  exact (θ_run _ _ _).mono (fun r h => ⟨fun c => (h c).2, sem_eq_zero_of_no_sems (by decide) r.2⟩)
    (Cert.ReferenceIdeal.Value.run (F := Ideal) m g)

end Cert.Loss

end
-- ==== Proof.Block.lean ====
/-
  One block of the second call read at an index over the extended reals: a slice's similarities and labels, what a
  slice adds to the denominators and the numerators, and the row and column sums.
-/
module

public import proofs.«01_k».proof.Proof.LossVal
public import Idealize.ShloMosaic.Lib.Pointwise

@[expose] public section

set_option maxRecDepth 16384

noncomputable section

namespace Cert.Loss

open Cert.KernelIdeal Cert.KernelIdeal.Gen
open Idealize.ShloMosaic Idealize.ShloMosaic.TcCoe

/-- Lane `l` of slice `j`, as a column of its block. -/
def lane (j : Fin 4) (l : Fin 128) : Fin 512 := ⟨128 * j.val + l.val, by omega⟩

theorem simSlice_apply (s : FVec Ideal S512x512 .f32) (j : Fin 4) (a : Fin 512) (l : Fin 128) :
    simSlice s j (ix2 a l) = s (ix2 a (lane j l)) := by
  fin_cases j <;> pointwise [simSlice, lane] <;> rfl

theorem labSlice_apply (s : FVec Ideal S1x512 .f32) (j : Fin 4) (l : Fin 128) :
    labSlice s j (ix2 0 l) = s (ix2 0 (lane j l)) := by
  fin_cases j <;> pointwise [labSlice, lane] <;> rfl

theorem zeros_apply (i : S512x128.Idx) : zeros (F := Ideal) i = 0 := by pointwise [zeros]

theorem addSlices_apply (a : FVec Ideal S512x128 .f32) (f : Fin 4 → FVec Ideal S512x128 .f32) (i : S512x128.Idx) :
    addSlices a f i = a i + ∑ j, f j i := by
  pointwise [addSlices]
  rw [Fin.sum_univ_four]; simp only [add_assoc]

theorem denTerm_apply (s : FVec Ideal S512x512 .f32) (j : Fin 4) (a : Fin 512) (l : Fin 128) :
    denTerm s j (ix2 a l) = Ideal.exp2 (s (ix2 a (lane j l))) := by
  exact congrArg Ideal.exp2 (simSlice_apply s j a l)

theorem numTerm_apply (lr : FVec Ideal S512x128 .f32) (s : FVec Ideal S512x512 .f32) (b : FVec Ideal S1x512 .f32) (j : Fin 4)
    (a : Fin 512) (l : Fin 128) : numTerm lr s b j (ix2 a l) =
      if lr (ix2 a l) = b (ix2 0 (lane j l)) ∧ 0 < s (ix2 a (lane j l)) then Ideal.exp2 (s (ix2 a (lane j l))) else 0 := by
  unfold numTerm
  pointwise
  rw [labSlice_apply, zeros_apply, simSlice_apply, denTerm_apply]
  exact (ite_and _ _ _ _).symm

theorem offDiag_apply (j : Fin 4) (a : Fin 512) (l : Fin 128) : offDiag j (ix2 a l) = if a ≠ lane j l then 1#1 else 0#1 := by
  unfold offDiag
  pointwise
  have ha : a.val < 512 := a.isLt
  have hl : l.val < 128 := l.isLt
  have hj : j.val < 4 := j.isLt
  have key : (BitVec.ofNat 32 a.val = BitVec.ofNat 32 l.val + BitVec.ofNat 32 (128 * j.val)) ↔ a = lane j l := by
    rw [← BitVec.toNat_inj, Fin.ext_iff]
    simp only [BitVec.toNat_ofNat, BitVec.toNat_add, lane]
    omega
  by_cases h : a = lane j l
  · rw [if_neg (not_not.mpr h)]
    have e := key.mpr h
    simp [IntOp.cmpi, IntOp.addi, e]
  · rw [if_pos h]
    have e := mt key.mp h
    simp only [IntOp.cmpi, IntOp.addi]
    rw [bne_iff_ne.mpr e]; rfl

theorem simOf_apply (x : Vec Ideal S512x512 .bf16) (b : Vec Ideal S1x512x512 .bf16) (a c : Fin 512) :
    simOf x b (ix2 a c) = ∑ k, x (ix2 a k) * b (ix3 0 k c) := by
  pointwise [simOf]

theorem labOf_apply (b : Vec Ideal S1x1x512 .f32) (c : Fin 512) : labOf b (ix2 0 c) = b (ix3 0 0 c) := by
  pointwise [labOf]

theorem rowSum_apply (v : FVec Ideal S512x128 .f32) (a : Fin 512) : rowSum v (ix2 a 0) = ∑ l, v (ix2 a l) := by
  pointwise [rowSum]

theorem colSum_apply (v : FVec Ideal S512x1 .f32) : colSum v (ix2 0 0) = ∑ a, v (ix2 a 0) := by
  pointwise [colSum]

/-- The sixteen blocks' slices, added in turn. -/
theorem steps_apply (z : FVec Ideal S512x128 .f32) (f : Fin 15 → Fin 4 → FVec Ideal S512x128 .f32) (i : S512x128.Idx) :
    (steps.foldl (fun a r => addSlices a (f r)) z) i = z i + ∑ r, ∑ j, f r j i := by
  have h : ∀ (L : List (Fin 15)) (z : FVec Ideal S512x128 .f32),
      (L.foldl (fun a r => addSlices a (f r)) z) i = z i + (L.map fun r => ∑ j, f r j i).sum := by
    intro L
    induction L with
    | nil => intro z; simp
    | cons r L ih => intro z; rw [List.foldl_cons, ih, addSlices_apply, List.map_cons, List.sum_cons, add_assoc]
  rw [h, show steps = List.finRange 15 from by decide, ← Fin.sum_univ_def]

/-- Where the kernel looks for its own block, and for the one met `r + 1` steps later. -/
theorem own_at : ∀ i : grid1.Coords, k1_off1 i = ![(i 0).val, 0, 0] ∧ k1_off2 i = ![(i 0).val, 0, 0] := by decide +kernel
theorem next_at : ∀ (i : grid1.Coords) (r : Fin 15), k1_off3 i (BitVec.ofNat 32 (1 + r.val)) = ![((i 0).val + (1 + r.val)) % 16, 0, 0]
    ∧ k1_off4 i (BitVec.ofNat 32 (1 + r.val)) = ![((i 0).val + (1 + r.val)) % 16, 0, 0] := by decide +kernel

/-- The block met `r + 1` steps after block `b`. -/
def later (b : Fin 16) (r : Fin 15) : Fin 16 := ⟨(b.val + (1 + r.val)) % 16, Nat.mod_lt _ (by decide)⟩

variable (i : grid1.Coords)

theorem ownCols_apply (G : Vec Ideal S16x512x512 .bf16) (k c : Fin 512) : ownCols G i (ix3 0 k c) = G (ix3 (i 0) k c) := by
  unfold ownCols
  pointwise
  exact congrArg G ((ix3_inj _ _ _ _ _ _).mpr ⟨Fin.ext (by simp [(own_at i).1, later]), Fin.ext (by simp [(own_at i).1]), Fin.ext (by simp [(own_at i).1])⟩)
theorem ownLabs_apply (G : Vec Ideal S16x1x512 .f32) (c : Fin 512) : ownLabs G i (ix3 0 0 c) = G (ix3 (i 0) 0 c) := by
  unfold ownLabs
  pointwise
  exact congrArg G ((ix3_inj _ _ _ _ _ _).mpr ⟨Fin.ext (by simp [(own_at i).2, later]), Fin.ext (by simp [(own_at i).2]), Fin.ext (by simp [(own_at i).2])⟩)
theorem nextCols_apply (G : Vec Ideal S16x512x512 .bf16) (r : Fin 15) (k c : Fin 512) : nextCols G i r (ix3 0 k c) = G (ix3 (later (i 0) r) k c) := by
  unfold nextCols
  pointwise
  exact congrArg G ((ix3_inj _ _ _ _ _ _).mpr ⟨Fin.ext (by simp [(next_at i r).1, later]), Fin.ext (by simp [(next_at i r).1]), Fin.ext (by simp [(next_at i r).1])⟩)
theorem nextLabs_apply (G : Vec Ideal S16x1x512 .f32) (r : Fin 15) (c : Fin 512) : nextLabs G i r (ix3 0 0 c) = G (ix3 (later (i 0) r) 0 c) := by
  unfold nextLabs
  pointwise
  exact congrArg G ((ix3_inj _ _ _ _ _ _).mpr ⟨Fin.ext (by simp [(next_at i r).2, later]), Fin.ext (by simp [(next_at i r).2]), Fin.ext (by simp [(next_at i r).2])⟩)

end Cert.Loss

end
-- ==== Proof.Spec.lean ====
/-
  The loss as a formula over the extended reals: rows `E` of unit length, labels `lab`. A pair's score is the rows'
  product, its weight the exponential of the score over the temperature 7/100; a row's numerator sums the weights of the
  other rows that share its label and score above zero, its denominator those of all other rows.
-/
module

public import Idealize.ShloMosaic.PureOps.Ideal
public import Idealize.ShloMosaic.Lib.Pointwise

@[expose] public section

noncomputable section

namespace Cert.Loss

open Idealize.ShloMosaic
open scoped Classical

variable (E : Fin 8192 → Fin 512 → ℝ) (lab : Fin 8192 → BitVec 32)

def score (r c : Fin 8192) : ℝ := ∑ k, E r k * E c k
def weight (r c : Fin 8192) : ℝ := Real.exp (score E r c / (7 / 100))
def Partner (r c : Fin 8192) : Prop := r ≠ c ∧ lab r = lab c ∧ 0 < score E r c
def numer (r : Fin 8192) : ℝ := ∑ c, if Partner E lab r c then weight E r c else 0
def denom (r : Fin 8192) : ℝ := ∑ c, if r ≠ c then weight E r c else 0

/-- A row counts when it has a partner. -/
def Counts (r : Fin 8192) : Prop := ∃ c, Partner E lab r c

/-- The constant added to a denominator, as its word denotes it. -/
def eps : EReal := Ideal.ofBits .f32 0x322BCC77#32

/-- A row's loss, the number of rows that count, and the loss. -/
def rowTerm (r : Fin 8192) : EReal :=
  if Counts E lab r then -Ideal.log (Ideal.div (numer E lab r) (denom E r + eps)) else 0
def tally : ℕ := (Finset.univ.filter fun r => Counts E lab r).card
def answer : EReal :=
  FloatOps.absf (F := Ideal) (φ := .f32) (if 0 < tally E lab then Ideal.div (∑ r, rowTerm E lab r) ((max (tally E lab) 1 : ℕ) : ℝ) else 0)

theorem weight_pos (r c : Fin 8192) : 0 < weight E r c := Real.exp_pos _

/-- A numerator is positive exactly where the row counts. -/
theorem numer_pos (r : Fin 8192) : 0 < numer E lab r ↔ Counts E lab r := by
  have h0 : ∀ c, 0 ≤ (if Partner E lab r c then weight E r c else 0) := fun c => by
    split_ifs
    · exact (weight_pos E r c).le
    · exact le_rfl
  constructor
  · intro h
    by_contra hn
    refine h.ne' (Finset.sum_eq_zero fun c _ => if_neg fun hc => hn ⟨c, hc⟩)
  · rintro ⟨c, hc⟩
    exact Finset.sum_pos' (fun c _ => h0 c) ⟨c, Finset.mem_univ c, by rw [if_pos hc]; exact weight_pos E r c⟩

/-- Every denominator is positive: there are other rows. -/
theorem denom_pos (r : Fin 8192) : 0 < denom E r := by
  have h0 : ∀ c, 0 ≤ (if r ≠ c then weight E r c else 0) := fun c => by
    split_ifs
    · exact (weight_pos E r c).le
    · exact le_rfl
  have hc : r ≠ r + 1 := by
    intro h
    have h1 := congrArg Fin.val h
    rw [Fin.val_add] at h1
    have h2 : ((1 : Fin 8192) : ℕ) = 1 := rfl
    rw [h2] at h1
    omega
  exact Finset.sum_pos' (fun c _ => h0 c) ⟨r + 1, Finset.mem_univ _, by rw [if_pos hc]; exact weight_pos E r _⟩

/-- A sum of all weights less the row's own is the denominator. -/
theorem denom_eq (r : Fin 8192) : (∑ c, weight E r c) - (∑ c, if r = c then weight E r c else 0) = denom E r := by
  rw [denom, ← Finset.sum_sub_distrib]
  refine Finset.sum_congr rfl fun c _ => ?_
  by_cases h : r = c
  · rw [if_pos h, if_neg (not_not.mpr h), sub_self]
  · rw [if_neg h, if_pos h, sub_zero]

/-- A finite sum of reals in the extended reals. -/
theorem sum_coe {ι : Type} (s : Finset ι) (f : ι → ℝ) : ∑ i ∈ s, ((f i : ℝ) : EReal) = ((∑ i ∈ s, f i : ℝ) : EReal) := by
  induction s using Finset.cons_induction with
  | empty => simp
  | cons a s h ih => rw [Finset.sum_cons, Finset.sum_cons, ih, EReal.coe_add]

/-- The length of a row of extended reals, squared. -/
def ssq (x : Fin 512 → EReal) : EReal := ∑ k, x k * x k

/-- The kernel's unit row. -/
def unitRow (x : Fin 512 → EReal) (k : Fin 512) : EReal := x k * Ideal.rsqrt (ssq x)

theorem sq_nonneg' (y : EReal) : 0 ≤ y * y := by
  induction y with
  | bot => simp
  | top => simp
  | coe r => rw [← EReal.coe_mul, ← EReal.coe_zero, EReal.coe_le_coe_iff]; exact mul_self_nonneg r

theorem ssq_nonneg (x : Fin 512 → EReal) : 0 ≤ ssq x := Finset.sum_nonneg fun k _ => sq_nonneg' (x k)

theorem sq_le_ssq (x : Fin 512 → EReal) (k : Fin 512) : x k * x k ≤ ssq x :=
  Finset.single_le_sum (f := fun k => x k * x k) (fun k _ => sq_nonneg' (x k)) (Finset.mem_univ k)

/-- A row with a nonzero entry: its squared length is infinite, or a positive real and then every entry is real. -/
theorem ssq_cases (x : Fin 512 → EReal) (h : ∃ k, x k ≠ 0) :
    ssq x = ⊤ ∨ ∃ s : ℝ, 0 < s ∧ ssq x = s ∧ ∀ k, ∃ a : ℝ, x k = a := by
  rcases eq_or_ne (ssq x) ⊤ with ht | ht
  · exact .inl ht
  · right
    have hb : ssq x ≠ ⊥ := fun e => absurd (ssq_nonneg x) (by rw [e]; simp)
    obtain ⟨s, hs⟩ : ∃ s : ℝ, ssq x = s := ⟨(ssq x).toReal, (EReal.coe_toReal ht hb).symm⟩
    have hreal : ∀ k, ∃ a : ℝ, x k = a := by
      intro k
      have hk := sq_le_ssq x k
      rw [hs] at hk
      generalize x k = y at hk
      induction y with
      | bot => simp at hk
      | top => simp at hk
      | coe r => exact ⟨r, rfl⟩
    refine ⟨s, ?_, hs, hreal⟩
    obtain ⟨k, hk⟩ := h
    obtain ⟨a, ha⟩ := hreal k
    have h1 := sq_le_ssq x k
    rw [hs, ha, ← EReal.coe_mul, EReal.coe_le_coe_iff] at h1
    have h2 : a ≠ 0 := fun e => hk (by rw [ha, e, EReal.coe_zero])
    exact lt_of_lt_of_le (mul_self_pos.mpr h2) h1

theorem rsqrt_top : Ideal.rsqrt ⊤ = 0 := rfl
theorem sqrt_top : Ideal.sqrt ⊤ = ⊤ := rfl
theorem rsqrt_real (s : ℝ) (h : 0 < s) : Ideal.rsqrt (s : EReal) = (((Real.sqrt s)⁻¹ : ℝ) : EReal) := by
  show (if s < 0 then (⊥ : EReal) else if s = 0 then ⊤ else (((Real.sqrt s)⁻¹ : ℝ) : EReal)) = _
  rw [if_neg (not_lt.mpr h.le), if_neg h.ne']
theorem sqrt_real (s : ℝ) (h : 0 < s) : Ideal.sqrt (s : EReal) = ((Real.sqrt s : ℝ) : EReal) := by
  show (if s < 0 then (⊥ : EReal) else ((Real.sqrt s : ℝ) : EReal)) = _
  rw [if_neg (not_lt.mpr h.le)]

/-- The kernel's unit row is real. -/
theorem unitRow_real (x : Fin 512 → EReal) (h : ∃ k, x k ≠ 0) (k : Fin 512) : ∃ e : ℝ, unitRow x k = e := by
  rcases ssq_cases x h with ht | ⟨s, h0, hs, hr⟩
  · exact ⟨0, by rw [unitRow, ht, rsqrt_top, mul_zero, EReal.coe_zero]⟩
  · obtain ⟨a, ha⟩ := hr k
    exact ⟨a * (Real.sqrt s)⁻¹, by rw [unitRow, hs, ha, rsqrt_real s h0, EReal.coe_mul]⟩

/-- Dividing by the length is multiplying by its inverse. -/
theorem div_sqrt (x : Fin 512 → EReal) (h : ∃ k, x k ≠ 0) (k : Fin 512) : Ideal.div (x k) (Ideal.sqrt (ssq x)) = unitRow x k := by
  rcases ssq_cases x h with ht | ⟨s, h0, hs, hr⟩
  · rw [unitRow, ht, rsqrt_top, sqrt_top, Ideal.div, if_neg (by simp), EReal.inv_top]
  · have hq : Real.sqrt s ≠ 0 := (Real.sqrt_pos.mpr h0).ne'
    rw [unitRow, hs, rsqrt_real s h0, sqrt_real s h0, Ideal.div_coe hq, one_div]

/-- The kernel's power of two at the scaled score is the weight. -/
theorem exp2_scaled (u : ℝ) : Ideal.exp2 ((((Real.log 2 * (7 / 100))⁻¹ * u : ℝ)) : EReal) = ((Real.exp (u / (7 / 100)) : ℝ) : EReal) := by
  have h2 : Real.log 2 ≠ 0 := (Real.log_pos (by norm_num)).ne'
  show ((Real.rpow 2 _ : ℝ) : EReal) = _
  congr 1
  show (2 : ℝ) ^ ((Real.log 2 * (7 / 100))⁻¹ * u) = _
  rw [Real.rpow_def_of_pos (by norm_num)]
  congr 1
  field_simp

end Cert.Loss

end
-- ==== Proof.Point.lean ====
/-
  One point of the second call over the extended reals: its lanes summed are the formula's numerators and denominators,
  and what it adds to the loss and to the count is its rows' part of both.
-/
module

public import proofs.«01_k».proof.Proof.Block
public import proofs.«01_k».proof.Proof.Spec

@[expose] public section

set_option maxRecDepth 16384

noncomputable section

namespace Cert.Loss

open Cert.KernelIdeal Cert.KernelIdeal.Gen
open Idealize.ShloMosaic Idealize.ShloMosaic.TcCoe
open scoped Classical

/-- Row `a` of block `b`. -/
def row (b : Fin 16) (a : Fin 512) : Fin 8192 := ⟨512 * b.val + a.val, by omega⟩

theorem row_inj (b : Fin 16) (a : Fin 512) (b' : Fin 16) (a' : Fin 512) : row b a = row b' a' ↔ b = b' ∧ a = a' := by
  simp only [row, Fin.ext_iff]; omega

/-- A sum over the rows, block by block. -/
theorem sum_rows {M : Type} [AddCommMonoid M] (f : Fin 8192 → M) : ∑ c, f c = ∑ b, ∑ a, f (row b a) := by
  rw [← (finProdFinEquiv (m := 16) (n := 512)).sum_comp f, Fintype.sum_prod_type]
  refine Finset.sum_congr rfl fun b _ => Finset.sum_congr rfl fun a _ => congrArg f (Fin.ext ?_)
  simp only [finProdFinEquiv_apply_val, row]; omega

/-- A sum over a block, lane by lane. -/
theorem sum_lanes {M : Type} [AddCommMonoid M] (f : Fin 512 → M) : ∑ c, f c = ∑ l, ∑ j, f (lane j l) := by
  rw [← (finProdFinEquiv (m := 4) (n := 128)).sum_comp f, Fintype.sum_prod_type, Finset.sum_comm]
  refine Finset.sum_congr rfl fun b _ => Finset.sum_congr rfl fun a _ => congrArg f (Fin.ext ?_)
  simp only [finProdFinEquiv_apply_val, lane]; omega

/-- A sum over the blocks, from one of them on. -/
theorem sum_blocks {M : Type} [AddCommMonoid M] (b : Fin 16) (g : Fin 16 → M) : g b + ∑ r, g (later b r) = ∑ j, g j := by
  have h0 : b + 0 = b := add_zero b
  rw [← Equiv.sum_comp (Equiv.addLeft b) g]
  refine Eq.trans ?_ (Fin.sum_univ_succ fun t : Fin 16 => g (b + t)).symm
  rw [h0]
  refine congrArg (g b + ·) (Finset.sum_congr rfl fun r _ => congrArg g (Fin.ext ?_))
  rw [Fin.val_add, Fin.val_succ, later]; simp only [add_comm 1]

/-- The whole of it: own block first, then the later ones, slice by slice in every lane. -/
theorem sum_all {M : Type} [AddCommMonoid M] (b : Fin 16) (f : Fin 8192 → M) :
    ∑ l, ((∑ j, f (row b (lane j l))) + ∑ r, ∑ j, f (row (later b r) (lane j l))) = ∑ c, f c := by
  rw [sum_rows, ← sum_blocks b, Finset.sum_add_distrib, sum_lanes]
  refine congrArg (_ + ·) ?_
  rw [Finset.sum_comm]
  exact Finset.sum_congr rfl fun r _ => (sum_lanes fun a => f (row (later b r) a)).symm

/-- A label as the kernel holds it, and the kernel's scale. -/
def fl (w : BitVec 32) : EReal := ((w.toInt : ℝ) : EReal)
def kap : ℝ := (Real.log 2 * (7 / 100))⁻¹

theorem kap_pos : 0 < kap := inv_pos.mpr (mul_pos (Real.log_pos (by norm_num)) (by norm_num))

theorem fl_inj (v w : BitVec 32) : fl v = fl w ↔ v = w := by
  rw [fl, fl, EReal.coe_eq_coe_iff, Int.cast_inj, BitVec.toInt_inj]

/-- The block of a point. -/
def blk (i : grid1.Coords) : Fin 16 := i 0

variable (E : Fin 8192 → Fin 512 → ℝ) (lab : Fin 8192 → BitVec 32)

/-- What point `i` reads, in the formula's terms. -/
structure Reads (i : grid1.Coords) (x : Vec Ideal S512x512 .bf16) (lr : Vec Ideal S512x128 .f32) (lc : Vec Ideal S16x1x512 .f32)
    (G : Vec Ideal S16x512x512 .bf16) : Prop where
  rows : ∀ a k, x (ix2 a k) = ((E (row (blk i) a) k * kap : ℝ) : EReal)
  cols : ∀ j k c, G (ix3 j k c) = ((E (row j c) k : ℝ) : EReal)
  rowLabs : ∀ a l, lr (ix2 a l) = fl (lab (row (blk i) a))
  colLabs : ∀ j c, lc (ix3 j 0 c) = fl (lab (row j c))

variable {E lab} {i : grid1.Coords} {x : Vec Ideal S512x512 .bf16} {lr : Vec Ideal S512x128 .f32} {lc : Vec Ideal S16x1x512 .f32}
  {G : Vec Ideal S16x512x512 .bf16}

/-- A similarity is the scaled score. -/
theorem sim_eq (h : Reads E lab i x lr lc G) (b : Vec Ideal S1x512x512 .bf16) (j : Fin 16) (hb : ∀ k c, b (ix3 0 k c) = G (ix3 j k c))
    (a c : Fin 512) : simOf x b (ix2 a c) = ((kap * score E (row (blk i) a) (row j c) : ℝ) : EReal) := by
  rw [simOf_apply, score, Finset.mul_sum, ← sum_coe]
  refine Finset.sum_congr rfl fun k _ => ?_
  rw [h.rows, hb, h.cols, ← EReal.coe_mul]
  congr 1; ring

theorem den_term (h : Reads E lab i x lr lc G) (b : Vec Ideal S1x512x512 .bf16) (j : Fin 16) (hb : ∀ k c, b (ix3 0 k c) = G (ix3 j k c))
    (s : Fin 4) (a : Fin 512) (l : Fin 128) : denTerm (simOf x b) s (ix2 a l) = ((weight E (row (blk i) a) (row j (lane s l)) : ℝ) : EReal) := by
  rw [denTerm_apply, sim_eq h b j hb, kap, exp2_scaled]; rfl

theorem num_term (h : Reads E lab i x lr lc G) (b : Vec Ideal S1x512x512 .bf16) (d : Vec Ideal S1x1x512 .f32) (j : Fin 16)
    (hb : ∀ k c, b (ix3 0 k c) = G (ix3 j k c)) (hd : ∀ c, d (ix3 0 0 c) = lc (ix3 j 0 c)) (s : Fin 4) (a : Fin 512) (l : Fin 128) :
    numTerm (shapeCast S512x128 lr shapeCasts_S512x128_S512x128) (simOf x b) (labOf d) s (ix2 a l)
      = ((if lab (row (blk i) a) = lab (row j (lane s l)) ∧ 0 < score E (row (blk i) a) (row j (lane s l))
          then weight E (row (blk i) a) (row j (lane s l)) else 0 : ℝ) : EReal) := by
  have e : (shapeCast S512x128 lr shapeCasts_S512x128_S512x128 : FVec Ideal S512x128 .f32) (ix2 a l) = lr (ix2 a l) := by pointwise
  rw [numTerm_apply, sim_eq h b j hb, labOf_apply, hd, h.colLabs, e, h.rowLabs]
  have he : Ideal.exp2 ((kap * score E (row (blk i) a) (row j (lane s l)) : ℝ) : EReal) = ((weight E (row (blk i) a) (row j (lane s l)) : ℝ) : EReal) := by
    rw [kap, exp2_scaled]; rfl
  have hp : (0 : EReal) < ((kap * score E (row (blk i) a) (row j (lane s l)) : ℝ) : EReal) ↔ 0 < score E (row (blk i) a) (row j (lane s l)) := by
    rw [EReal.coe_pos]; exact mul_pos_iff_of_pos_left kap_pos
  rw [he, apply_ite (fun r : ℝ => (r : EReal)), EReal.coe_zero]
  exact if_congr (and_congr (fl_inj _ _) hp) rfl rfl

/-- A column of a later block is another row. -/
theorem later_ne (b : Fin 16) (a : Fin 512) (r : Fin 15) (c : Fin 512) : row b a ≠ row (later b r) c := by
  intro e
  have h := ((row_inj _ _ _ _).mp e).1
  have h1 := congrArg Fin.val h
  simp only [later] at h1
  omega

theorem own_ne (b : Fin 16) (a c : Fin 512) : row b a ≠ row b c ↔ a ≠ c := by
  rw [Ne, row_inj]; simp

theorem den_row (h : Reads E lab i x lr lc G) (a : Fin 512) :
    rowSum (denLanes x G i) (ix2 a 0) = ((denom E (row (blk i) a) : ℝ) : EReal) := by
  rw [rowSum_apply, denom, ← sum_coe, ← sum_all (blk i)]
  refine Finset.sum_congr rfl fun l _ => ?_
  rw [denLanes, steps_apply, addSlices_apply, zeros_apply, zero_add]
  refine congrArg₂ (· + ·) (Finset.sum_congr rfl fun s _ => ?_) (Finset.sum_congr rfl fun r _ => Finset.sum_congr rfl fun s _ => ?_)
  · show (if offDiag s (ix2 a l) = 1#1 then denTerm (simOf x (ownCols G i)) s (ix2 a l) else zeros (ix2 a l)) = _
    rw [offDiag_apply, zeros_apply, den_term h _ (blk i) (ownCols_apply i G)]
    by_cases hn : a ≠ lane s l
    · rw [if_pos hn, if_pos rfl, if_pos ((own_ne _ _ _).mpr hn)]
    · rw [if_neg hn, if_neg (by decide), if_neg (mt (own_ne _ _ _).mp hn), EReal.coe_zero]
  · rw [den_term h _ (later (blk i) r) (nextCols_apply i G r), if_pos (later_ne _ _ _ _)]

theorem num_row (h : Reads E lab i x lr lc G) (a : Fin 512) :
    rowSum (numLanes x lr lc G i) (ix2 a 0) = ((numer E lab (row (blk i) a) : ℝ) : EReal) := by
  rw [rowSum_apply, numer, ← sum_coe, ← sum_all (blk i)]
  refine Finset.sum_congr rfl fun l _ => ?_
  rw [numLanes, steps_apply, addSlices_apply, zeros_apply, zero_add]
  refine congrArg₂ (· + ·) (Finset.sum_congr rfl fun s _ => ?_) (Finset.sum_congr rfl fun r _ => Finset.sum_congr rfl fun s _ => ?_)
  · show (if offDiag s (ix2 a l) = 1#1 then numTerm _ (simOf x (ownCols G i)) (labOf (ownLabs lc i)) s (ix2 a l) else zeros (ix2 a l)) = _
    rw [offDiag_apply, zeros_apply, num_term h _ _ (blk i) (ownCols_apply i G) (ownLabs_apply i lc)]
    by_cases hn : a ≠ lane s l
    · rw [if_pos hn, if_pos rfl]
      have hr := (own_ne (blk i) a (lane s l)).mpr hn
      simp only [Partner, hr, true_and, ne_eq, not_false_eq_true]
    · rw [if_neg hn, if_neg (by decide), if_neg (fun p => mt (own_ne _ _ _).mp hn p.1), EReal.coe_zero]
  · rw [num_term h _ _ (later (blk i) r) (nextCols_apply i G r) (nextLabs_apply i lc r)]
    have hr := later_ne (blk i) a r (lane s l)
    simp only [Partner, hr, true_and, ne_eq, not_false_eq_true]

/-- The rows that count. -/
theorem counted_row (h : Reads E lab i x lr lc G) (a : Fin 512) :
    counted (rowSum (numLanes x lr lc G i)) (rowSum (denLanes x G i)) (ix2 a 0) = if Counts E lab (row (blk i) a) then 1#1 else 0#1 := by
  unfold counted
  pointwise
  rw [num_row h, den_row h]
  simp only [Ideal.cmp, EReal.coe_pos, denom_pos, numer_pos]
  by_cases hc : Counts E lab (row (blk i) a)
  · simp [hc]; try decide
  · simp [hc]; try decide

theorem rowLoss_row (h : Reads E lab i x lr lc G) (a : Fin 512) :
    rowLoss (rowSum (numLanes x lr lc G i)) (rowSum (denLanes x G i)) (ix2 a 0) = rowTerm E lab (row (blk i) a) := by
  unfold rowLoss
  pointwise
  rw [counted_row h, num_row h, den_row h, rowTerm]
  by_cases hc : Counts E lab (row (blk i) a)
  · simp [hc, eps, Scalar.select]
  · simp [hc, Scalar.select]

/-- What a point adds to the loss and to the count. -/
theorem lossNext_eq (h : Reads E lab i x lr lc G) (a : Vec Ideal S1x1 .f32) :
    lossNext x lr lc G i a (ix2 0 0) = a (ix2 0 0) + ∑ r, rowTerm E lab (row (blk i) r) := by
  unfold lossNext
  pointwise
  rw [colSum_apply]
  simp only [rowLoss_row h]

theorem countNext_eq (h : Reads E lab i x lr lc G) (a : Vec Ideal S1x1 .f32) :
    countNext x lr lc G i a (ix2 0 0) = a (ix2 0 0) + ((∑ r, if Counts E lab (row (blk i) r) then 1 else 0 : ℝ) : EReal) := by
  unfold countNext
  pointwise
  rw [colSum_apply, ← sum_coe]
  refine congrArg (_ + ·) (Finset.sum_congr rfl fun r _ => ?_)
  pointwise
  rw [counted_row h]
  by_cases hc : Counts E lab (row (blk i) r)
  · rw [if_pos hc, if_pos hc]
    show ((((1#32 : BitVec 32).toInt : ℝ)) : EReal) = ((1 : ℝ) : EReal)
    norm_num
  · rw [if_neg hc, if_neg hc]
    show ((((0#32 : BitVec 32).toInt : ℝ)) : EReal) = ((0 : ℝ) : EReal)
    norm_num

end Cert.Loss

end
-- ==== Proof.NormVal.lean ====
/-
  What the first call leaves, read at an index over the extended reals: the unit rows transposed block by block, and the
  unit rows times the scale; and the labels as the second call reads them.
-/
module

public import proofs.«01_k».proof.Proof.Run
public import proofs.«01_k».proof.Proof.Point
public import Idealize.ShloMosaic.Lib.Pipeline.ValueKit

@[expose] public section

set_option maxRecDepth 16384

noncomputable section

namespace Cert.Loss

open Cert.KernelIdeal Cert.KernelIdeal.Gen
open Idealize.ShloMosaic Idealize.ShloMosaic.TcCoe
open Idealize.ShloMosaic.Pipeline (Dat afterRegion)

variable (m : (ℓ : Loc nD τ sig) → Buf (Elt Ideal) ℓ) (c : Dev nD)

/-- The rows as given. -/
def given : FVec Ideal S8192x512 .f32 := m ((c.tc : Thread nD τ).loc main_arg0)
def rowOf (r : Fin 8192) (k : Fin 512) : EReal := given m c (ix2 r k)

theorem unitRows_apply (x : Vec Ideal S512x512 .f32) (a k : Fin 512) :
    unitRows x (ix2 a k) = unitRow (fun k => x (ix2 a k)) k * (kap : EReal) := by
  rw [unitRows, View.canon_unit_zero (by funext j; fin_cases j <;> rfl), View.ld_unit_zero (by funext j; fin_cases j <;> rfl)]
  have e : Named.named (F := Ideal) Cert.KernelIdeal.κ "scale" (φ := .f32) 0x41A4E123#32 = (kap : EReal) := rfl
  unfold k0_pay3 k0_pay1
  pointwise
  rw [e]; rfl

theorem unitCols_apply (x : Vec Ideal S512x512 .f32) (k a : Fin 512) :
    unitCols x (ix3 0 k a) = unitRow (fun k => x (ix2 a k)) k := by
  rw [unitCols, View.canon_unit_zero (by funext j; fin_cases j <;> rfl), View.ld_unit_zero (by funext j; fin_cases j <;> rfl)]
  unfold k0_pay2 k0_pay1
  pointwise
  rfl

theorem at0 : ∀ t : Fin cfg0.N, win0_0.index t = ![t.val, 0] ∧ win0_1.index t = ![t.val, 0, 0] ∧ win0_2.index t = ![t.val, 0] :=
  (by decide +kernel : ∀ t : Fin grid0.N, _)

/-- Point `t` reads block `t`. -/
theorem normIn_apply (t : Fin cfg0.N) (b : Fin 16) (hb : b.val = t.val) (a k : Fin 512) : normIn m c t (ix2 a k) = rowOf m c (row b a) k := by
  have e := (at0 t).1
  rw [normIn, rowOf, given]
  blk_simp
  refine congrArg (m _) ?_
  blk_ext [e, row]

theorem points0 : cfg0.N = 16 := N_0

theorem cols_eq : (normDat m c).arrAt 1 cfg0.N = fun i : S16x512x512.Idx => unitRow (rowOf m c (row (i 0) (i 2))) (i 1) := by
  refine (normDat m c).arrAt_eq_of_covers 1 _ (by decide +kernel) fun t hf y => ?_
  blk_simp
  rw [normDat_after1]
  have e := (at0 t).2.1
  have ht : t.val < 16 := lt_of_lt_of_eq t.isLt points0
  obtain ⟨k, a, rfl⟩ : ∃ (k a : Fin 512), y = ix3 0 k a := ⟨y 1, y 2, by idx_vars y; rw [Subsingleton.elim y0 0]⟩
  have h0 : ((win0_1.blk t).view.emb (ix3 0 k a) 0 : Fin 16) = ⟨t.val, ht⟩ := Fin.ext (by blk_simp [e]; simp)
  have h1 : ((win0_1.blk t).view.emb (ix3 0 k a) 1 : Fin 512) = k := Fin.ext (by blk_simp [e])
  have h2 : ((win0_1.blk t).view.emb (ix3 0 k a) 2 : Fin 512) = a := Fin.ext (by blk_simp [e])
  rw [unitCols_apply, h0, h1, h2]
  exact congrArg (unitRow · k) (funext fun k => normIn_apply m c t ⟨t.val, ht⟩ rfl a k)

theorem rows_eq : (normDat m c).arrAt 2 cfg0.N = fun i : S8192x512.Idx => unitRow (rowOf m c (i 0)) (i 1) * (kap : EReal) := by
  refine (normDat m c).arrAt_eq_of_covers 2 _ (by decide +kernel) fun t hf y => ?_
  blk_simp
  rw [normDat_after2]
  have e := (at0 t).2.2
  have ht : t.val < 16 := lt_of_lt_of_eq t.isLt points0
  obtain ⟨a, k, rfl⟩ : ∃ (a k : Fin 512), y = ix2 a k := ⟨y 0, y 1, by idx_vars y⟩
  have h0 : ((win0_2.blk t).view.emb (ix2 a k) 0 : Fin 8192) = row ⟨t.val, ht⟩ a := Fin.ext (by blk_simp [e, row]; exact congrArg (· + a.val) (mul_comm _ _))
  have h1 : ((win0_2.blk t).view.emb (ix2 a k) 1 : Fin 512) = k := Fin.ext (by blk_simp [e])
  rw [unitRows_apply, h0, h1]
  exact congrArg (unitRow · k * (kap : EReal)) (funext fun k => normIn_apply m c t ⟨t.val, ht⟩ rfl a k)

/-- The labels as given. -/
def labels : IVec S8192 32 := m ((c.tc : Thread nD τ).loc main_arg1)
def labOfRow (r : Fin 8192) : BitVec 32 := labels m c (ix1 r)

/-- What the second call finds in its four operands. -/
theorem entry_cols (j : Fin 16) (k a : Fin 512) : (entry m c (Proc.devRef .tc main_v0_0) : FVec Ideal S16x512x512 .bf16) (ix3 j k a) = unitRow (rowOf m c (row j a)) k := by
  have h : (Proc.devRef .tc main_v0_0 : DevRef τ sig) ≠ Proc.devRef .tc main_v0_1 := StableHlo.devRef_ne_of_ne (by decide)
  have e : entry m c (Proc.devRef .tc main_v0_0) = (normDat m c).arrAt 1 cfg0.N := by
    rw [entry, V2_of m (outsA m) c main_v0_0 (by decide), V1, Function.update_of_ne h, Function.update_self]
    exact Pipeline.afterRegion_arr (normDat m c) (V0 m c) launch0.win.arr_inj 1
  rw [e, cols_eq]; rfl

theorem entry_rows (r : Fin 8192) (k : Fin 512) : (entry m c (Proc.devRef .tc main_v0_1) : FVec Ideal S8192x512 .bf16) (ix2 r k) = unitRow (rowOf m c r) k * (kap : EReal) := by
  have e : entry m c (Proc.devRef .tc main_v0_1) = (normDat m c).arrAt 2 cfg0.N := by
    rw [entry, V2_of m (outsA m) c main_v0_1 (by decide), V1, Function.update_self]
    exact Pipeline.afterRegion_arr (normDat m c) (V0 m c) launch0.win.arr_inj 2
  rw [e, rows_eq]; rfl

theorem sitofp_apply (v : IVec S8192 32) (r : Fin 8192) : (sitofp (F := Ideal) .f32 v) (ix1 r) = fl (v (ix1 r)) := rfl

theorem entry_labs (r : Fin 8192) (l : Fin 128) : (entry m c (Proc.devRef .tc main_v3) : FVec Ideal S8192x128 .f32) (ix2 r l) = fl (labOfRow m c r) := by
  rw [entry, V2]
  after_results_simp
  rw [V1_of m (outsA m) c main_arg1 (by decide), labOfRow, ← sitofp_apply]
  generalize hv : (labels m c) = v
  rw [show V0 m c (Proc.devRef .tc main_arg1) = v from hv]
  pointwise

theorem entry_blocks (j : Fin 16) (a : Fin 512) : (entry m c (Proc.devRef .tc main_v4) : FVec Ideal S16x1x512 .f32) (ix3 j 0 a) = fl (labOfRow m c (row j a)) := by
  rw [entry, V2]
  after_results_simp
  rw [V1_of m (outsA m) c main_arg1 (by decide), labOfRow, ← sitofp_apply]
  generalize hv : (labels m c) = v
  rw [show V0 m c (Proc.devRef .tc main_arg1) = v from hv]
  pointwise
  exact congrArg (fun r => fl (v (ix1 r))) (Fin.ext (congrArg (· + a.val) (mul_comm _ _)))

end Cert.Loss

end
-- ==== Proof.KerVal.lean ====
/-
  The kernel over the extended reals is the formula: what the second call reads at each point, the two sums after the
  last, and the host's quotient.
-/
module

public import proofs.«01_k».proof.Proof.NormVal
public import Idealize.ShloMosaic.Lib.IdealHost

@[expose] public section

set_option maxRecDepth 16384

noncomputable section

namespace Cert.Loss

open Cert.KernelIdeal Cert.KernelIdeal.Gen
open Idealize.ShloMosaic Idealize.ShloMosaic.TcCoe
open Idealize.ShloMosaic.Pipeline (Dat afterRegion)
open scoped Classical

variable (m : (ℓ : Loc nD τ sig) → Buf (Elt Ideal) ℓ) (c : Dev nD)

theorem at1 : ∀ t : Fin cfg1.N, win1_0.index t = ![t.val, 0] ∧ win1_1.index t = ![t.val, 0] ∧ win1_2.index t = ![0, 0, 0] ∧ (blk (grid1.coords t)).val = t.val :=
  (by decide +kernel : ∀ t : Fin grid1.N, _)

variable (E : Fin 8192 → Fin 512 → ℝ) (hE : ∀ r k, unitRow (rowOf m c r) k = ((E r k : ℝ) : EReal))

include hE in
/-- What point `t` reads is what the formula says. -/
theorem reads_at (t : Fin cfg1.N) : Reads E (labOfRow m c) (grid1.coords t) (View.ld (lossRows (entry m) c t) rowsRect)
    (View.ld (lossLabs (entry m) c t) labsRect) (lossAll (entry m) c t) (lossCols (entry m) c) := by
  obtain ⟨e0, e1, e2, eb⟩ := at1 t
  have ht : t.val < 16 := lt_of_lt_of_eq t.isLt points1
  rw [View.ld_unit_zero (by funext j; fin_cases j <;> rfl), View.ld_unit_zero (by funext j; fin_cases j <;> rfl)]
  refine ⟨fun a k => ?_, fun j k a => ?_, fun a l => ?_, fun j a => ?_⟩
  · rw [EReal.coe_mul, ← hE, ← entry_rows, lossRows]
    blk_simp
    refine congrArg (entry m c (Proc.devRef .tc main_v0_1)) ?_
    blk_ext [e0, row, eb]
  · rw [← hE, ← entry_cols]; rfl
  · rw [← entry_labs m c _ l, lossLabs]
    blk_simp
    refine congrArg (entry m c (Proc.devRef .tc main_v3)) ?_
    blk_ext [e1, row, eb]
  · rw [← entry_blocks, lossAll]
    blk_simp
    refine congrArg (entry m c (Proc.devRef .tc main_v4)) ?_
    blk_ext [e2]

/-- Block `n`, for a point's number. -/
def nth (n : ℕ) : Fin 16 := ⟨n % 16, Nat.mod_lt _ (by decide)⟩

theorem blk_nth (t : Fin cfg1.N) : blk (grid1.coords t) = nth t.val := by
  have ht : t.val < 16 := lt_of_lt_of_eq t.isLt points1
  exact Fin.ext ((at1 t).2.2.2.trans (Nat.mod_eq_of_lt ht).symm)

include hE in
theorem upto_eq (n : ℕ) (hn : n ≤ 16) :
    lossUpto (entry m) c n (ix2 0 0) = ∑ b ∈ Finset.range n, ∑ a, rowTerm E (labOfRow m c) (row (nth b) a)
    ∧ countUpto (entry m) c n (ix2 0 0) = ((∑ b ∈ Finset.range n, ∑ a, if Counts E (labOfRow m c) (row (nth b) a) then 1 else 0 : ℝ) : EReal) := by
  induction n with
  | zero =>
    rw [Finset.range_zero, Finset.sum_empty, Finset.sum_empty, EReal.coe_zero]
    constructor
    · show k1_pay3 (F := Ideal) (ix2 0 0) = 0
      pointwise [k1_pay3]
    · show k1_pay4 (F := Ideal) (ix2 0 0) = 0
      pointwise [k1_pay4]
  | succ n ih =>
    obtain ⟨i1, i2⟩ := ih (by omega)
    have hN : n < cfg1.N := by rw [points1]; omega
    have hr := reads_at m c E hE ⟨n, hN⟩
    have h1 := lossUpto_succ (entry m) c ⟨n, hN⟩
    have h2 := countUpto_succ (entry m) c ⟨n, hN⟩
    dsimp only at h1 h2
    rw [h1, h2, lossNext_eq hr, countNext_eq hr, i1, i2, blk_nth, Finset.sum_range_succ, Finset.sum_range_succ, EReal.coe_add]
    exact ⟨rfl, rfl⟩

theorem sum_points {M : Type} [AddCommMonoid M] (f : Fin 8192 → M) : ∑ b ∈ Finset.range 16, ∑ a, f (row (nth b) a) = ∑ r, f r := by
  rw [sum_rows, Finset.sum_range]
  exact Finset.sum_congr rfl fun b _ => by rw [show nth b.val = b from Fin.ext (Nat.mod_eq_of_lt b.isLt)]

theorem one_idx (j : S1x1.Idx) : j = ix2 0 0 := by
  idx_vars j
  rw [Subsingleton.elim j0 0, Subsingleton.elim j1 0]

def last1 : Fin cfg1.N := ⟨15, by rw [points1]; decide⟩

include hE in
/-- The two sums the second call leaves. -/
theorem sum_left : (lossDat (entry m) c).arrAt 3 cfg1.N = fun _ => ∑ r, rowTerm E (labOfRow m c) r := by
  refine (lossDat (entry m) c).arrAt_eq_of_after_last 3 last1 (by decide +kernel) _ fun j => ?_
  blk_simp
  rw [lossDat_after3, ← sum_points, ← (upto_eq m c E hE 16 le_rfl).1]
  exact congrArg (lossUpto (entry m) c 16) (one_idx _)

include hE in
theorem count_left : (lossDat (entry m) c).arrAt 4 cfg1.N = fun _ => (((tally E (labOfRow m c) : ℕ) : ℝ) : EReal) := by
  refine (lossDat (entry m) c).arrAt_eq_of_after_last 4 last1 (by decide +kernel) _ fun j => ?_
  blk_simp
  have e : ((tally E (labOfRow m c) : ℕ) : ℝ) = ∑ r, if Counts E (labOfRow m c) r then 1 else 0 := by
    rw [tally, Finset.sum_boole]
  rw [lossDat_after4, e, ← sum_points, ← (upto_eq m c E hE 16 le_rfl).2]
  exact congrArg (countUpto (entry m) c 16) (one_idx _)

include hE in
/-- The kernel's result. -/
theorem kernel_eq : V6 m (outs m) c main_v12 = fun _ => answer E (labOfRow m c) := by
  have e0 : V3 m (outs m) c (Proc.devRef .tc main_v5_0) = (lossDat (entry m) c).arrAt 3 cfg1.N :=
    (after_loss m c _ (Finset.mem_filter.mpr ⟨StableHlo.devRef_mem_tcRefs main_v5_0, by decide⟩)).symm.trans
      (Pipeline.afterRegion_arr (lossDat (entry m) c) (entry m c) launch1.win.arr_inj 3)
  have e1 : V3 m (outs m) c (Proc.devRef .tc main_v5_1) = (lossDat (entry m) c).arrAt 4 cfg1.N :=
    (after_loss m c _ (Finset.mem_filter.mpr ⟨StableHlo.devRef_mem_tcRefs main_v5_1, by decide⟩)).symm.trans
      (Pipeline.afterRegion_arr (lossDat (entry m) c) (entry m c) launch1.win.arr_inj 4)
  rw [sum_left m c E hE] at e0
  rw [count_left m c E hE] at e1
  unfold V6 V5 V4
  after_results_simp
  rw [e0, e1]
  funext i
  show FloatOps.absf (F := Ideal) (φ := .f32) (Scalar.select (BitVec.ofBool (decide ((Ideal.ofBits .f32 0x00000000#32 : EReal) < ((tally E (labOfRow m c) : ℕ) : ℝ))))
    (Ideal.div (∑ r, rowTerm E (labOfRow m c) r) (max (((tally E (labOfRow m c) : ℕ) : ℝ) : EReal) (Ideal.ofBits .f32 0x3F800000#32)))
    (Ideal.ofBits .f32 0x00000000#32)) = _
  have h1 : max (((tally E (labOfRow m c) : ℕ) : ℝ) : EReal) 1 = (((max (tally E (labOfRow m c)) 1 : ℕ) : ℝ) : EReal) := by
    rw [Nat.cast_max, Nat.cast_one, EReal.coe_strictMono.monotone.map_max, EReal.coe_one]
  rw [Ideal.ofBits_zero_f32, Ideal.ofBits_one_f32, h1, answer, Scalar.select]
  by_cases h : 0 < tally E (labOfRow m c)
  · rw [if_pos h, decide_eq_true (EReal.coe_pos.mpr (Nat.cast_pos.mpr h)), if_pos (by decide)]
  · rw [if_neg h, decide_eq_false (fun p => h (Nat.cast_pos.mp (EReal.coe_pos.mp p))), if_neg (by decide)]

end Cert.Loss

end
-- ==== Proof.RefTerm.lean ====
/-
  The reference's result, its shared parts named: unit rows, scores over the temperature, the diagonal, the partners, the
  two sums of a row, the rows that count, their losses, and the mean.
-/
module

public import proofs.«01_k».proof.Proof.Gen.ReferenceIdeal.Run

@[expose] public section

set_option maxRecDepth 16384

noncomputable section

namespace Cert.Loss.Ref

open Cert.ReferenceIdeal Cert.ReferenceIdeal.Gen
open Idealize.ShloMosaic Idealize.ShloMosaic.TcCoe

variable {F : FTy → Type} [FloatOps F]

def zeroF : FVec F S_ .f32 := constant S_ .f32 0x00000000#32
def unit (X : FVec F S8192x512 .f32) : FVec F S8192x512 .f32 :=
  Host.divf X (broadcastInDim S8192x512 ![0, 1] bcast_S8192x1_S8192x512_0_1 (Host.sqrt (broadcastInDim S8192x1 ![0] bcast_S8192_S8192x1_0
    (Host.reduceAdd (mulf X X) zeroF reducesTo_S8192x512_S8192_d1 h_S_))))
def sim (e : FVec F S8192x512 .f32) : FVec F S8192x8192 .f32 :=
  Host.divf (Host.dotGeneral dot_S8192x512_S512x8192_S8192x8192_1_0_0_1_n_n none e (transpose S512x8192 [1, 0] e transposes_S8192x512_S512x8192_1_0))
    (broadcastInDim S8192x8192 ![] bcast_S_S8192x8192 (Host.divf (constant S_ .f32 0x40E00000#32) (constant S_ .f32 0x42C80000#32)))
def eye : IVec S8192x8192 1 :=
  cmpi .eq (addi (iotaInDim S8192x8192 32 0) (broadcastInDim S8192x8192 ![] bcast_S_S8192x8192 (constantI S_ 32 0#32))) (iotaInDim S8192x8192 32 1)
def partners (L : IVec S8192 32) (s : FVec F S8192x8192 .f32) : IVec S8192x8192 1 :=
  andi (andi (cmpi .eq (broadcastInDim S8192x8192 ![0, 1] bcast_S8192x1_S8192x8192_0_1 (broadcastInDim S8192x1 ![0] bcast_S8192_S8192x1_0 L))
    (broadcastInDim S8192x8192 ![0, 1] bcast_S1x8192_S8192x8192_0_1 (broadcastInDim S1x8192 ![1] bcast_S8192_S1x8192_1 L))) (noti eye))
    (cmpf .ogt s (broadcastInDim S8192x8192 ![] bcast_S_S8192x8192 zeroF))
def num (p : IVec S8192x8192 1) (s : FVec F S8192x8192 .f32) : FVec F S8192 .f32 :=
  Host.reduceAdd (select p (Host.exp s) (broadcastInDim S8192x8192 ![] bcast_S_S8192x8192 (id zeroF))) zeroF reducesTo_S8192x8192_S8192_d1 h_S_
def den (s : FVec F S8192x8192 .f32) : FVec F S8192 .f32 :=
  subf (Host.reduceAdd (Host.exp s) zeroF reducesTo_S8192x8192_S8192_d1 h_S_)
    (Host.reduceAdd (select eye (Host.exp s) (broadcastInDim S8192x8192 ![] bcast_S_S8192x8192 (id zeroF))) zeroF reducesTo_S8192x8192_S8192_d1 h_S_)
def valid (p : IVec S8192x8192 1) (d : FVec F S8192 .f32) : IVec S8192 1 :=
  andi (Host.reduce IntOp.ori p (constantI S_ 1 0#1) reducesTo_S8192x8192_S8192_d1 h_S_) (cmpf .ogt d (broadcastInDim S8192 ![] bcast_S_S8192 zeroF))
def losses (v : IVec S8192 1) (n d : FVec F S8192 .f32) : FVec F S8192 .f32 :=
  Host.negf (Host.log (Host.divf (select v n (broadcastInDim S8192 ![] bcast_S_S8192 (id (constant S_ .f32 0x3F800000#32))))
    (addf (select v d (broadcastInDim S8192 ![] bcast_S_S8192 (id (constant S_ .f32 0x3F800000#32)))) (broadcastInDim S8192 ![] bcast_S_S8192 (constant S_ .f32 0x322BCC77#32)))))
def count (v : IVec S8192 1) : IVec S_ 32 := Host.reduce IntOp.addi (extui 32 v natLt_1_32) (constantI S_ 32 0#32) reducesTo_S8192_S_d0 h_S_
def total (v : IVec S8192 1) (l : FVec F S8192 .f32) : FVec F S_ .f32 :=
  Host.reduceAdd (select v l (broadcastInDim S8192 ![] bcast_S_S8192 (id zeroF))) zeroF reducesTo_S8192_S_d0 h_S_
def mean (v : IVec S8192 1) (l : FVec F S8192 .f32) : FVec F S_ .f32 :=
  Host.absf (select (cmpi .sgt (count v) (constantI S_ 32 0#32)) (Host.divf (total v l) (sitofp .f32 (maxsi (count v) (constantI S_ 32 1#32)))) (id zeroF))

def whole (X : FVec F S8192x512 .f32) (L : IVec S8192 32) : FVec F S_ .f32 :=
  mean (valid (partners L (sim (unit X))) (den (sim (unit X))))
    (losses (valid (partners L (sim (unit X))) (den (sim (unit X)))) (num (partners L (sim (unit X))) (sim (unit X))) (den (sim (unit X))))

theorem result_eq (m : (ℓ : Loc nD τ sig) → Buf (Elt F) ℓ) (c : Dev nD) :
    Cert.ReferenceIdeal.Value.res_out0 m c = whole (m ((c.tc : Thread nD τ).loc main_arg0)) (m ((c.tc : Thread nD τ).loc main_arg1)) := by
  unfold Cert.ReferenceIdeal.Value.res_out0 Cert.ReferenceIdeal.Value.res_main_v55
  rfl

end Cert.Loss.Ref

end
-- ==== Proof.RefVal.lean ====
/-
  The reference over the extended reals is the formula: its parts at an index, then its result.
-/
module

public import proofs.«01_k».proof.Proof.RefTerm
public import proofs.«01_k».proof.Proof.Spec
public import Idealize.ShloMosaic.Lib.Routing.OpsOrder
public import Idealize.ShloMosaic.Lib.IndicatorCount
public import Idealize.ShloMosaic.Lib.IdealHost

@[expose] public section

set_option maxRecDepth 16384

noncomputable section

namespace Cert.Loss.Ref

open Cert.ReferenceIdeal Cert.ReferenceIdeal.Gen
open Idealize.ShloMosaic Idealize.ShloMosaic.TcCoe
open scoped Classical

theorem word_7 : Ideal.ofBits .f32 0x40E00000#32 = ((7 : ℝ) : EReal) := by
  simp [Ideal.ofBits, Ideal.ieee, -EReal.coe_mul]; norm_num
theorem word_100 : Ideal.ofBits .f32 0x42C80000#32 = ((100 : ℝ) : EReal) := by
  simp [Ideal.ofBits, Ideal.ieee, -EReal.coe_mul]; norm_num

variable (E : Fin 8192 → Fin 512 → ℝ) (lab : Fin 8192 → BitVec 32)

theorem unit_apply (X : FVec Ideal S8192x512 .f32) (r : Fin 8192) (k : Fin 512) :
    unit X (ix2 r k) = Ideal.div (X (ix2 r k)) (Ideal.sqrt (ssq fun k => X (ix2 r k))) := by
  unfold unit zeroF
  pointwise
  rfl

/-- Zero and one, as the reference spells them. -/
theorem zero_at (i : S_.Idx) : (id (constant S_ .f32 0x00000000#32) : FVec Ideal S_ .f32) i = 0 := Ideal.ofBits_zero_f32
theorem one_at (i : S_.Idx) : (id (constant S_ .f32 0x3F800000#32) : FVec Ideal S_ .f32) i = 1 := Ideal.ofBits_one_f32

theorem bit_iff {P : Prop} [Decidable P] : (if P then 1#1 else 0#1 : BitVec 1) = 1#1 ↔ P := by
  by_cases h : P
  · simp [h]
  · simp [h]

theorem sim_apply (e : FVec Ideal S8192x512 .f32) (h : ∀ r k, e (ix2 r k) = ((E r k : ℝ) : EReal)) (r c : Fin 8192) :
    sim e (ix2 r c) = ((score E r c / (7 / 100) : ℝ) : EReal) := by
  unfold sim
  pointwise
  have e1 : ∑ x, e (ix2 r x) * e (ix2 c x) = ((score E r c : ℝ) : EReal) := by
    rw [score, ← sum_coe]
    exact Finset.sum_congr rfl fun k _ => by rw [h, h, ← EReal.coe_mul]
  rw [e1, word_7, word_100, Ideal.div_coe (by norm_num), ← EReal.coe_mul, Ideal.div_coe (by norm_num), ← EReal.coe_mul]
  congr 1; ring

theorem eye_apply (r c : Fin 8192) : eye (ix2 r c) = if r = c then 1#1 else 0#1 := by
  unfold eye
  pointwise
  have hr : r.val < 8192 := r.isLt
  have hc : c.val < 8192 := c.isLt
  have key : (BitVec.ofNat 32 r.val + 0#32 = BitVec.ofNat 32 c.val) ↔ r = c := by
    rw [← BitVec.toNat_inj, Fin.ext_iff]
    simp only [BitVec.toNat_ofNat, BitVec.toNat_add]
    omega
  simp only [IntOp.cmpi, IntOp.addi]
  by_cases h : r = c
  · rw [if_pos h, beq_iff_eq.mpr (key.mpr h)]; rfl
  · rw [if_neg h, beq_eq_false_iff_ne.mpr (mt key.mp h)]; rfl

variable {E lab} {L : IVec S8192 32} {s : FVec Ideal S8192x8192 .f32}

theorem partners_apply (hL : ∀ r, L (ix1 r) = lab r) (hs : ∀ r c, s (ix2 r c) = ((score E r c / (7 / 100) : ℝ) : EReal)) (r c : Fin 8192) :
    partners L s (ix2 r c) = if Partner E lab r c then 1#1 else 0#1 := by
  unfold partners zeroF
  pointwise
  have hp : (0 : EReal) < s (ix2 r c) ↔ 0 < score E r c := by
    rw [hs, EReal.coe_pos]; exact div_pos_iff_of_pos_right (by norm_num)
  rw [eye_apply, hL, hL]
  simp only [hp, IntOp.cmpi, Partner, beq_eq_decide]
  by_cases h1 : r = c <;> by_cases h2 : lab r = lab c <;> by_cases h3 : 0 < score E r c <;>
    simp [h1, h2, h3, IntOp.andi]

theorem exp_real (x : ℝ) : Ideal.exp ((x : ℝ) : EReal) = ((Real.exp x : ℝ) : EReal) := rfl

theorem num_apply (hL : ∀ r, L (ix1 r) = lab r) (hs : ∀ r c, s (ix2 r c) = ((score E r c / (7 / 100) : ℝ) : EReal)) (r : Fin 8192) :
    num (partners L s) s (ix1 r) = ((numer E lab r : ℝ) : EReal) := by
  unfold num zeroF
  pointwise
  rw [numer, ← sum_coe]
  refine Finset.sum_congr rfl fun c _ => ?_
  rw [zero_at, partners_apply hL hs, hs, exp_real, Scalar.select]
  by_cases h : Partner E lab r c
  · rw [if_pos h, if_pos h, if_pos (show (1#1 : BitVec 1) = 1 from rfl)]; rfl
  · rw [if_neg h, if_neg h, if_neg (by decide), EReal.coe_zero]

theorem den_apply (hs : ∀ r c, s (ix2 r c) = ((score E r c / (7 / 100) : ℝ) : EReal)) (r : Fin 8192) :
    den s (ix1 r) = ((denom E r : ℝ) : EReal) := by
  unfold den zeroF
  pointwise
  rw [← denom_eq, EReal.coe_sub, ← sum_coe, ← sum_coe]
  refine congrArg₂ (· - ·) (Finset.sum_congr rfl fun c _ => ?_) (Finset.sum_congr rfl fun c _ => ?_)
  · rw [hs, exp_real]; rfl
  · rw [zero_at, eye_apply, hs, exp_real, Scalar.select]
    by_cases h : r = c
    · rw [if_pos h, if_pos h, if_pos (show (1#1 : BitVec 1) = 1 from rfl)]; rfl
    · rw [if_neg h, if_neg h, if_neg (by decide), EReal.coe_zero]

theorem valid_apply (hL : ∀ r, L (ix1 r) = lab r) (hs : ∀ r c, s (ix2 r c) = ((score E r c / (7 / 100) : ℝ) : EReal)) (r : Fin 8192) :
    valid (partners L s) (den s) (ix1 r) = if Counts E lab r then 1#1 else 0#1 := by
  unfold valid zeroF
  pointwise
  have h1 : Finset.fold IntOp.ori (0#1) (fun c => partners L s (ix2 r c)) Finset.univ = 1#1 ↔ Counts E lab r := by
    rw [Routing.fold_ori, Counts]
    simp only [Finset.mem_univ, true_and, partners_apply hL hs, bit_iff]
  rw [den_apply hs, decide_eq_true (EReal.coe_pos.mpr (denom_pos E r))]
  by_cases h : Counts E lab r
  · rw [if_pos h, h1.mpr h]; rfl
  · rw [if_neg h, (BitVec.eq_zero_or_eq_one _).resolve_right (mt h1.mp h)]; rfl

theorem losses_apply (v : IVec S8192 1) (n d : FVec Ideal S8192 .f32) (r : Fin 8192) : losses v n d (ix1 r) =
    -Ideal.log (Ideal.div (if v (ix1 r) = 1#1 then n (ix1 r) else 1) ((if v (ix1 r) = 1#1 then d (ix1 r) else 1) + eps)) := by
  unfold losses
  pointwise
  rw [one_at]; rfl

theorem count_eq (v : IVec S8192 1) (i : S_.Idx) (P : Fin 8192 → Prop) (hv : ∀ r, v (ix1 r) = if P r then 1#1 else 0#1) :
    count v i = BitVec.ofNat 32 (Finset.univ.filter P).card := by
  unfold count
  pointwise
  rw [IndicatorCount.fold_addi_setWidth_eq_card]
  simp only [hv, bit_iff]

theorem total_apply (v : IVec S8192 1) (l : FVec Ideal S8192 .f32) (i : S_.Idx) : total v l i = ∑ r, if v (ix1 r) = 1#1 then l (ix1 r) else 0 := by
  unfold total zeroF
  pointwise
  rw [zero_at]; rfl

theorem toInt_small (n : ℕ) (hn : n ≤ 8192) : (BitVec.ofNat 32 n).toInt = n := by
  have e : (BitVec.ofNat 32 n).toNat = n := by rw [BitVec.toNat_ofNat]; omega
  rw [BitVec.toInt_eq_toNat_of_lt (by rw [e]; omega), e]

theorem maxsi_small (n : ℕ) (hn : n ≤ 8192) : (IntOp.maxsi (BitVec.ofNat 32 n) 1#32).toInt = (max n 1 : ℕ) := by
  have h1 : (1#32 : BitVec 32).toInt = 1 := rfl
  rw [IntOp.maxsi, BitVec.slt_eq_decide, toInt_small n hn, h1]
  by_cases h : (1 : ℤ) < n
  · rw [if_pos (decide_eq_true h), toInt_small n hn]; omega
  · rw [if_neg (by simpa using h), h1]; omega

theorem mean_apply (v : IVec S8192 1) (l : FVec Ideal S8192 .f32) (i : S_.Idx) (n : ℕ) (hn : n ≤ 8192) (hc : count v i = BitVec.ofNat 32 n) :
    mean v l i = FloatOps.absf (F := Ideal) (φ := .f32) (if 0 < n then Ideal.div (total v l i) ((max n 1 : ℕ) : ℝ) else 0) := by
  unfold mean zeroF
  pointwise
  have e1 : (FloatOps.sitofp (F := Ideal) FTy.f32 (IntOp.maxsi (BitVec.ofNat 32 n) 1#32)) = (((max n 1 : ℕ) : ℝ) : EReal) := by
    show ((((IntOp.maxsi (BitVec.ofNat 32 n) 1#32).toInt : ℤ) : ℝ) : EReal) = _
    rw [maxsi_small n hn, Int.cast_natCast]
  have e0 : (0#32 : BitVec 32).toInt = 0 := rfl
  have e2 : IntOp.cmpi .sgt (BitVec.ofNat 32 n) 0#32 = if 0 < n then 1#1 else 0#1 := by
    simp only [IntOp.cmpi, BitVec.slt_eq_decide, toInt_small n hn, e0]
    by_cases h : 0 < n
    · rw [if_pos h, decide_eq_true (by omega)]; rfl
    · rw [if_neg h, decide_eq_false (by omega)]; rfl
  rw [hc, e1, e2, zero_at, Scalar.select]
  by_cases h : 0 < n
  · rw [if_pos h, if_pos h, if_pos (show (1#1 : BitVec 1) = 1 from rfl)]
  · rw [if_neg h, if_neg h, if_neg (by decide)]

/-- The reference's result. -/
theorem whole_eq (X : FVec Ideal S8192x512 .f32) (hX : ∀ r k, unitRow (fun k => X (ix2 r k)) k = ((E r k : ℝ) : EReal)) (hn : ∀ r, ∃ k, X (ix2 r k) ≠ 0)
    (hL : ∀ r, L (ix1 r) = lab r) (i : S_.Idx) : whole X L i = answer E lab := by
  have hu : ∀ r k, unit X (ix2 r k) = ((E r k : ℝ) : EReal) := fun r k => by
    rw [unit_apply, div_sqrt (fun k => X (ix2 r k)) (hn r), hX]
  have hs := sim_apply E (unit X) hu
  have hv := valid_apply (L := L) (lab := lab) hL hs
  have hcard : tally E lab ≤ 8192 := (Finset.card_le_univ _).trans (by simp)
  rw [whole, mean_apply _ _ i (tally E lab) hcard (count_eq _ i _ hv), answer, total_apply]
  congr 2
  have ht : ∀ r, (if valid (partners L (sim (unit X))) (den (sim (unit X))) (ix1 r) = 1#1 then losses (valid (partners L (sim (unit X))) (den (sim (unit X)))) (num (partners L (sim (unit X))) (sim (unit X))) (den (sim (unit X))) (ix1 r) else 0) = rowTerm E lab r := by
    intro r
    rw [losses_apply, hv, num_apply hL hs, den_apply hs, rowTerm]
    by_cases h : Counts E lab r
    · rw [if_pos h, if_pos rfl, if_pos rfl, if_pos rfl, if_pos h]
    · rw [if_neg h, if_neg (by decide), if_neg h]
  simp only [ht]

end Cert.Loss.Ref

end
-- ==== Proof.Agree.lean ====
/-
  Over the extended reals, with no zero row, kernel and reference end with the same loss.
-/
module

public import proofs.«01_k».proof.Defs
public import proofs.«01_k».proof.Proof.KerVal
public import proofs.«01_k».proof.Proof.RefVal
public import proofs.«01_k».proof.Proof.Gen.Pre_rows_nonzero
public import Idealize.ShloMosaic.Lib.ReduceAll

@[expose] public section

set_option maxRecDepth 16384

noncomputable section

namespace Cert.Loss

open Idealize.ShloMosaic Idealize.ShloMosaic.TcCoe
open Idealize.SL.Sem

/-- The precondition at a row: some entry is not zero. -/
theorem nonzero_row (X : FVec Ideal Cert.Pre_rows_nonzero.S8192x512 .f32) (L : IVec Cert.Pre_rows_nonzero.S8192 32)
    (h : Cert.Pre_rows_nonzero.fn (F := Ideal) X L = fun _ => 1#1) (r : Fin 8192) : ∃ k, X (ix2 r k) ≠ 0 := by
  have h0 := congrFun h ix0
  unfold Cert.Pre_rows_nonzero.fn at h0
  have h1 := Host.reduce_andi_all _ _ _ _ _ h0 (ix1 r)
  pointwise at h1
  obtain ⟨k, -, hk⟩ := (Routing.fold_ori _ _).mp h1
  refine ⟨k, of_decide_eq_true ?_⟩
  have hb : ∀ b : Bool, BitVec.ofBool b = 1#1 → b = true := by decide
  exact hb _ hk

/-- Both programs' results. -/
theorem agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hpre : Cert.Pre_rows_nonzero.fn (F := Ideal) (m ((c.tc : Thread _ _).loc Cert.KernelIdeal.main_arg0)) (m ((c.tc : Thread _ _).loc Cert.KernelIdeal.main_arg1)) = fun _ => 1#1)
    (h0 : m' ((c.tc : Thread _ _).loc Cert.ReferenceIdeal.main_arg0) = m ((c.tc : Thread _ _).loc Cert.KernelIdeal.main_arg0))
    (h1 : m' ((c.tc : Thread _ _).loc Cert.ReferenceIdeal.main_arg1) = m ((c.tc : Thread _ _).loc Cert.KernelIdeal.main_arg1)) :
    Cert.ReferenceIdeal.Value.res_out0 m' c = Cert.KernelIdeal.Gen.V6 m (outs m) c Cert.KernelIdeal.main_v12 := by
  have hn : ∀ r, ∃ k, rowOf m c r k ≠ 0 := nonzero_row _ _ hpre
  choose E hE using fun r => unitRow_real (rowOf m c r) (hn r)
  rw [kernel_eq m c E hE, Ref.result_eq, h0, h1]
  funext i
  exact Ref.whole_eq (lab := labOfRow m c) _ hE hn (fun _ => rfl) i

/-- From memories that agree on the arguments, with no zero row, both programs end with one loss. -/
theorem same_loss (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg)
    (hpre : Cert.Pre_KernelIdeal_rows_nonzero m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)) :=
  ⟨fun c => Cert.KernelIdeal.Gen.V6 m (outs m) c Cert.KernelIdeal.main_v12,
    (θ_run _ _ _).mono (fun _ h c => ⟨(h.1 c).2.2, (h.1 c).1, (h.1 c).2.1⟩) (kernel_run m g),
    (θ_run _ _ _).mono (fun _ h c => ⟨(h c).1.trans (agree m m' c (hpre c) (hagree c).1 (hagree c).2), (h c).2⟩) (Cert.ReferenceIdeal.Value.run (F := Ideal) m' g')⟩

end Cert.Loss

end
-- ==== Proof.lean ====
/-
  The certificate: the programs' frames, that the ideal program is the kernel over the extended reals, and that kernel and
  reference compute one function there.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Reference
public import proofs.«01_k».proof.Proof.Gen.Pre_rows_nonzero
public import proofs.«01_k».proof.Proof.Gen.ReferenceIdeal.Run
public import proofs.«01_k».proof.Proof.Gen.Reference.Run
public import proofs.«01_k».proof.Proof.Frames
public import proofs.«01_k».proof.Proof.Agree
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Reference.Gen.facts, Cert.Pre_rows_nonzero.Gen.facts,
  Cert.Loss.frame_kernel, Cert.Loss.frame_kernelIdeal, fun m g _ => Cert.Loss.frame_kernelIdeal m g trivial,
  Cert.Loss.frame_referenceIdeal, fun m g _ => Cert.Loss.frame_referenceIdeal m g trivial, Cert.Loss.frame_reference,
  IdealRules.named_const.statement Cert.KernelIdeal.κ "scale" .f32 0x41A4E123#32 ((((Real.log 2) * (7 / 100))⁻¹ : ℝ) : EReal) rfl,
  trivial, Cert.Loss.same_loss⟩

end Cert.Proof

end
